-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 2048]⟩ ⟨3, ![2, 2048, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S1x2048 : Shape := ⟨2, ![1, 2048]⟩
abbrev S512x2048 : Shape := ⟨2, ![512, 2048]⟩
abbrev S2x64x2048 : Shape := ⟨3, ![2, 64, 2048]⟩
abbrev S8 : Shape := ⟨1, ![8]⟩
abbrev S4 : Shape := ⟨1, ![4]⟩
abbrev S2 : Shape := ⟨1, ![2]⟩
abbrev S_ : Shape := ⟨0, ![]⟩
abbrev S1 : Shape := ⟨1, ![1]⟩
abbrev S64x2048 : Shape := ⟨2, ![64, 2048]⟩
abbrev S1x64x2048 : Shape := ⟨3, ![1, 64, 2048]⟩
abbrev S64 : Shape := ⟨1, ![64]⟩
abbrev S64x1 : Shape := ⟨2, ![64, 1]⟩

abbrev nBuf : Space → Nat
  | .hbm => 4
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .local _ .vmem, ⟨0, _⟩ => ⟨S1x2048, .f32⟩
  | .local _ .vmem, ⟨1, _⟩ => ⟨S2048x2048, .f32⟩
  | .local _ .vmem, ⟨2, _⟩ => ⟨S512x2048, .f32⟩
  | .local _ .vmem, ⟨3, _⟩ => ⟨S2x64x2048, .f32⟩
  | .local _ .vmem, ⟨4, _⟩ => ⟨S2x64x2048, .f32⟩
  | .local _ .vmem, ⟨5, _⟩ => ⟨S2x64x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  (ofTc nBuf bufTy 1 79 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v29 : BitVec 32 := Scalar.muli v2 c4_i32_18
  let v30 : BitVec 32 := Scalar.addi c0_i32 v29
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_19 : BitVec 32 := 2#32
  let v31 : BitVec 32 := Scalar.muli v9 c2_i32_19
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v33 : BitVec 32 := Scalar.muli v8 c1_i32_20
  let v34 : BitVec 32 := Scalar.addi v32 v33
  v34.toNat
def k0_dev2 (d0 : Dev nD) : Nat :=
  let c0_i32_23 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_22 : BitVec 32 := 4#32
  let v35 : BitVec 32 := Scalar.muli v10 c4_i32_22
  let v36 : BitVec 32 := Scalar.addi c0_i32_23 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v37 : BitVec 32 := Scalar.muli v5 c2_i32_24
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v39 : BitVec 32 := Scalar.muli v8 c1_i32_25
  let v40 : BitVec 32 := Scalar.addi v38 v39
  v40.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v41 : BitVec 32 := Scalar.muli v2 c4_i32_27
  let v42 : BitVec 32 := Scalar.addi c0_i32_28 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v43 : BitVec 32 := Scalar.muli v5 c2_i32_29
  let v44 : BitVec 32 := Scalar.addi v42 v43
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_30 : BitVec 32 := 1#32
  let v45 : BitVec 32 := Scalar.muli v11 c1_i32_30
  let v46 : BitVec 32 := Scalar.addi v44 v45
  v46.toNat
def k0_off1 (d0 : Dev nD) (c0_i32_31 : BitVec 32) : Fin 3 → Nat :=
  let c0_i32_88 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v14 : BitVec 32 := Scalar.muli v13 c512_i32
  let v47 : BitVec 32 := Scalar.addi v14 c0_i32_31
  let c0_i32_92 : BitVec 32 := 0#32
  ![0, v47.toNat, 0]
def k0_off2 (d0 : Dev nD) (c0_i32_32 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v14 : BitVec 32 := Scalar.muli v13 c512_i32
  let v55 : BitVec 32 := Scalar.addi v14 c0_i32_32
  let c0_i32_136 : BitVec 32 := 0#32
  ![v55.toNat, 0]
def k0_dev4 (d0 : Dev nD) : Nat :=
  let c0_i32_133 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_132 : BitVec 32 := 4#32
  let v156 : BitVec 32 := Scalar.muli v2 c4_i32_132
  let v157 : BitVec 32 := Scalar.addi c0_i32_133 v156
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_134 : BitVec 32 := 2#32
  let v158 : BitVec 32 := Scalar.muli v9 c2_i32_134
  let v159 : BitVec 32 := Scalar.addi v157 v158
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v160 : BitVec 32 := Scalar.muli v8 c1_i32_135
  let v161 : BitVec 32 := Scalar.addi v159 v160
  v161.toNat
def k0_dev5 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v173 : BitVec 32 := Scalar.muli v2 c4_i32_146
  let v174 : BitVec 32 := Scalar.addi c0_i32_147 v173
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_148 : BitVec 32 := 2#32
  let v175 : BitVec 32 := Scalar.muli v9 c2_i32_148
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v177 : BitVec 32 := Scalar.muli v8 c1_i32_149
  let v178 : BitVec 32 := Scalar.addi v176 v177
  v178.toNat
def k0_dev6 (d0 : Dev nD) : Nat :=
  let c0_i32_161 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_160 : BitVec 32 := 4#32
  let v190 : BitVec 32 := Scalar.muli v2 c4_i32_160
  let v191 : BitVec 32 := Scalar.addi c0_i32_161 v190
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_162 : BitVec 32 := 2#32
  let v192 : BitVec 32 := Scalar.muli v9 c2_i32_162
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_163 : BitVec 32 := 1#32
  let v194 : BitVec 32 := Scalar.muli v8 c1_i32_163
  let v195 : BitVec 32 := Scalar.addi v193 v194
  v195.toNat
def k0_dev7 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_174 : BitVec 32 := 4#32
  let v207 : BitVec 32 := Scalar.muli v2 c4_i32_174
  let v208 : BitVec 32 := Scalar.addi c0_i32_175 v207
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_176 : BitVec 32 := 2#32
  let v209 : BitVec 32 := Scalar.muli v9 c2_i32_176
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v211 : BitVec 32 := Scalar.muli v8 c1_i32_177
  let v212 : BitVec 32 := Scalar.addi v210 v211
  v212.toNat
def k0_dev8 (d0 : Dev nD) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_188 : BitVec 32 := 4#32
  let v224 : BitVec 32 := Scalar.muli v2 c4_i32_188
  let v225 : BitVec 32 := Scalar.addi c0_i32_189 v224
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_190 : BitVec 32 := 2#32
  let v226 : BitVec 32 := Scalar.muli v9 c2_i32_190
  let v227 : BitVec 32 := Scalar.addi v225 v226
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_191 : BitVec 32 := 1#32
  let v228 : BitVec 32 := Scalar.muli v8 c1_i32_191
  let v229 : BitVec 32 := Scalar.addi v227 v228
  v229.toNat
def k0_dev9 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v241 : BitVec 32 := Scalar.muli v2 c4_i32_202
  let v242 : BitVec 32 := Scalar.addi c0_i32_203 v241
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_204 : BitVec 32 := 2#32
  let v243 : BitVec 32 := Scalar.muli v9 c2_i32_204
  let v244 : BitVec 32 := Scalar.addi v242 v243
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_205 : BitVec 32 := 1#32
  let v245 : BitVec 32 := Scalar.muli v8 c1_i32_205
  let v246 : BitVec 32 := Scalar.addi v244 v245
  v246.toNat
def k0_dev10 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_216 : BitVec 32 := 4#32
  let v258 : BitVec 32 := Scalar.muli v2 c4_i32_216
  let v259 : BitVec 32 := Scalar.addi c0_i32_217 v258
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_218 : BitVec 32 := 2#32
  let v260 : BitVec 32 := Scalar.muli v9 c2_i32_218
  let v261 : BitVec 32 := Scalar.addi v259 v260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v262 : BitVec 32 := Scalar.muli v8 c1_i32_219
  let v263 : BitVec 32 := Scalar.addi v261 v262
  v263.toNat
def k0_dev11 (d0 : Dev nD) : Nat :=
  let c0_i32_231 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_230 : BitVec 32 := 4#32
  let v275 : BitVec 32 := Scalar.muli v2 c4_i32_230
  let v276 : BitVec 32 := Scalar.addi c0_i32_231 v275
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_232 : BitVec 32 := 2#32
  let v277 : BitVec 32 := Scalar.muli v9 c2_i32_232
  let v278 : BitVec 32 := Scalar.addi v276 v277
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_233 : BitVec 32 := 1#32
  let v279 : BitVec 32 := Scalar.muli v8 c1_i32_233
  let v280 : BitVec 32 := Scalar.addi v278 v279
  v280.toNat
def k0_dev12 (d0 : Dev nD) : Nat :=
  let c0_i32_262 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_261 : BitVec 32 := 4#32
  let v310 : BitVec 32 := Scalar.muli v10 c4_i32_261
  let v311 : BitVec 32 := Scalar.addi c0_i32_262 v310
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_263 : BitVec 32 := 2#32
  let v312 : BitVec 32 := Scalar.muli v5 c2_i32_263
  let v313 : BitVec 32 := Scalar.addi v311 v312
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v314 : BitVec 32 := Scalar.muli v8 c1_i32_264
  let v315 : BitVec 32 := Scalar.addi v313 v314
  v315.toNat
def k0_dev13 (d0 : Dev nD) : Nat :=
  let c0_i32_270 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_269 : BitVec 32 := 4#32
  let v322 : BitVec 32 := Scalar.muli v2 c4_i32_269
  let v323 : BitVec 32 := Scalar.addi c0_i32_270 v322
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v324 : BitVec 32 := Scalar.muli v5 c2_i32_271
  let v325 : BitVec 32 := Scalar.addi v323 v324
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_272 : BitVec 32 := 1#32
  let v326 : BitVec 32 := Scalar.muli v11 c1_i32_272
  let v327 : BitVec 32 := Scalar.addi v325 v326
  v327.toNat
def k0_off3 (d0 : Dev nD) (c0_i32_301 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v14 : BitVec 32 := Scalar.muli v13 c512_i32
  let v360 : BitVec 32 := Scalar.addi v14 c0_i32_301
  let v361 : Index := Scalar.indexCast v360
  let c0_302 : Index := 0#32
  ![v361.toNat, 0]
def k0_dev14 (d0 : Dev nD) : Nat :=
  let c0_i32_331 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_330 : BitVec 32 := 4#32
  let v400 : BitVec 32 := Scalar.muli v10 c4_i32_330
  let v401 : BitVec 32 := Scalar.addi c0_i32_331 v400
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_332 : BitVec 32 := 2#32
  let v402 : BitVec 32 := Scalar.muli v5 c2_i32_332
  let v403 : BitVec 32 := Scalar.addi v401 v402
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_333 : BitVec 32 := 1#32
  let v404 : BitVec 32 := Scalar.muli v8 c1_i32_333
  let v405 : BitVec 32 := Scalar.addi v403 v404
  v405.toNat
def k0_dev15 (d0 : Dev nD) : Nat :=
  let c0_i32_339 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_338 : BitVec 32 := 4#32
  let v412 : BitVec 32 := Scalar.muli v2 c4_i32_338
  let v413 : BitVec 32 := Scalar.addi c0_i32_339 v412
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_340 : BitVec 32 := 2#32
  let v414 : BitVec 32 := Scalar.muli v5 c2_i32_340
  let v415 : BitVec 32 := Scalar.addi v413 v414
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_341 : BitVec 32 := 1#32
  let v416 : BitVec 32 := Scalar.muli v11 c1_i32_341
  let v417 : BitVec 32 := Scalar.addi v415 v416
  v417.toNat
def k0_dev16 (d0 : Dev nD) : Nat :=
  let c0_i32_401 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_400 : BitVec 32 := 4#32
  let v490 : BitVec 32 := Scalar.muli v10 c4_i32_400
  let v491 : BitVec 32 := Scalar.addi c0_i32_401 v490
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_402 : BitVec 32 := 2#32
  let v492 : BitVec 32 := Scalar.muli v5 c2_i32_402
  let v493 : BitVec 32 := Scalar.addi v491 v492
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_403 : BitVec 32 := 1#32
  let v494 : BitVec 32 := Scalar.muli v8 c1_i32_403
  let v495 : BitVec 32 := Scalar.addi v493 v494
  v495.toNat
def k0_dev17 (d0 : Dev nD) : Nat :=
  let c0_i32_409 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_408 : BitVec 32 := 4#32
  let v502 : BitVec 32 := Scalar.muli v2 c4_i32_408
  let v503 : BitVec 32 := Scalar.addi c0_i32_409 v502
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_410 : BitVec 32 := 2#32
  let v504 : BitVec 32 := Scalar.muli v5 c2_i32_410
  let v505 : BitVec 32 := Scalar.addi v503 v504
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_411 : BitVec 32 := 1#32
  let v506 : BitVec 32 := Scalar.muli v11 c1_i32_411
  let v507 : BitVec 32 := Scalar.addi v505 v506
  v507.toNat
def k0_dev18 (d0 : Dev nD) : Nat :=
  let c0_i32_477 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_476 : BitVec 32 := 4#32
  let v585 : BitVec 32 := Scalar.muli v10 c4_i32_476
  let v586 : BitVec 32 := Scalar.addi c0_i32_477 v585
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_478 : BitVec 32 := 2#32
  let v587 : BitVec 32 := Scalar.muli v5 c2_i32_478
  let v588 : BitVec 32 := Scalar.addi v586 v587
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_479 : BitVec 32 := 1#32
  let v589 : BitVec 32 := Scalar.muli v8 c1_i32_479
  let v590 : BitVec 32 := Scalar.addi v588 v589
  v590.toNat
def k0_dev19 (d0 : Dev nD) : Nat :=
  let c0_i32_485 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_484 : BitVec 32 := 4#32
  let v597 : BitVec 32 := Scalar.muli v2 c4_i32_484
  let v598 : BitVec 32 := Scalar.addi c0_i32_485 v597
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_486 : BitVec 32 := 2#32
  let v599 : BitVec 32 := Scalar.muli v5 c2_i32_486
  let v600 : BitVec 32 := Scalar.addi v598 v599
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_487 : BitVec 32 := 1#32
  let v601 : BitVec 32 := Scalar.muli v11 c1_i32_487
  let v602 : BitVec 32 := Scalar.addi v600 v601
  v602.toNat
def k0_dev20 (d0 : Dev nD) : Nat :=
  let c0_i32_553 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_552 : BitVec 32 := 4#32
  let v680 : BitVec 32 := Scalar.muli v10 c4_i32_552
  let v681 : BitVec 32 := Scalar.addi c0_i32_553 v680
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_554 : BitVec 32 := 2#32
  let v682 : BitVec 32 := Scalar.muli v5 c2_i32_554
  let v683 : BitVec 32 := Scalar.addi v681 v682
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_555 : BitVec 32 := 1#32
  let v684 : BitVec 32 := Scalar.muli v8 c1_i32_555
  let v685 : BitVec 32 := Scalar.addi v683 v684
  v685.toNat
def k0_dev21 (d0 : Dev nD) : Nat :=
  let c0_i32_561 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_560 : BitVec 32 := 4#32
  let v692 : BitVec 32 := Scalar.muli v2 c4_i32_560
  let v693 : BitVec 32 := Scalar.addi c0_i32_561 v692
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_562 : BitVec 32 := 2#32
  let v694 : BitVec 32 := Scalar.muli v5 c2_i32_562
  let v695 : BitVec 32 := Scalar.addi v693 v694
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_563 : BitVec 32 := 1#32
  let v696 : BitVec 32 := Scalar.muli v11 c1_i32_563
  let v697 : BitVec 32 := Scalar.addi v695 v696
  v697.toNat
def k0_dev22 (d0 : Dev nD) : Nat :=
  let c0_i32_629 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_628 : BitVec 32 := 4#32
  let v775 : BitVec 32 := Scalar.muli v10 c4_i32_628
  let v776 : BitVec 32 := Scalar.addi c0_i32_629 v775
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_630 : BitVec 32 := 2#32
  let v777 : BitVec 32 := Scalar.muli v5 c2_i32_630
  let v778 : BitVec 32 := Scalar.addi v776 v777
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_631 : BitVec 32 := 1#32
  let v779 : BitVec 32 := Scalar.muli v8 c1_i32_631
  let v780 : BitVec 32 := Scalar.addi v778 v779
  v780.toNat
def k0_dev23 (d0 : Dev nD) : Nat :=
  let c0_i32_637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_636 : BitVec 32 := 4#32
  let v787 : BitVec 32 := Scalar.muli v2 c4_i32_636
  let v788 : BitVec 32 := Scalar.addi c0_i32_637 v787
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_638 : BitVec 32 := 2#32
  let v789 : BitVec 32 := Scalar.muli v5 c2_i32_638
  let v790 : BitVec 32 := Scalar.addi v788 v789
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_639 : BitVec 32 := 1#32
  let v791 : BitVec 32 := Scalar.muli v11 c1_i32_639
  let v792 : BitVec 32 := Scalar.addi v790 v791
  v792.toNat
def k0_dev24 (d0 : Dev nD) : Nat :=
  let c0_i32_705 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_704 : BitVec 32 := 4#32
  let v870 : BitVec 32 := Scalar.muli v10 c4_i32_704
  let v871 : BitVec 32 := Scalar.addi c0_i32_705 v870
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_706 : BitVec 32 := 2#32
  let v872 : BitVec 32 := Scalar.muli v5 c2_i32_706
  let v873 : BitVec 32 := Scalar.addi v871 v872
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_707 : BitVec 32 := 1#32
  let v874 : BitVec 32 := Scalar.muli v8 c1_i32_707
  let v875 : BitVec 32 := Scalar.addi v873 v874
  v875.toNat
def k0_dev25 (d0 : Dev nD) : Nat :=
  let c0_i32_713 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_712 : BitVec 32 := 4#32
  let v882 : BitVec 32 := Scalar.muli v2 c4_i32_712
  let v883 : BitVec 32 := Scalar.addi c0_i32_713 v882
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_714 : BitVec 32 := 2#32
  let v884 : BitVec 32 := Scalar.muli v5 c2_i32_714
  let v885 : BitVec 32 := Scalar.addi v883 v884
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_715 : BitVec 32 := 1#32
  let v886 : BitVec 32 := Scalar.muli v11 c1_i32_715
  let v887 : BitVec 32 := Scalar.addi v885 v886
  v887.toNat
def k0_dev26 (d0 : Dev nD) : Nat :=
  let c0_i32_781 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_780 : BitVec 32 := 4#32
  let v965 : BitVec 32 := Scalar.muli v10 c4_i32_780
  let v966 : BitVec 32 := Scalar.addi c0_i32_781 v965
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_782 : BitVec 32 := 2#32
  let v967 : BitVec 32 := Scalar.muli v5 c2_i32_782
  let v968 : BitVec 32 := Scalar.addi v966 v967
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_783 : BitVec 32 := 1#32
  let v969 : BitVec 32 := Scalar.muli v8 c1_i32_783
  let v970 : BitVec 32 := Scalar.addi v968 v969
  v970.toNat
def k0_dev27 (d0 : Dev nD) : Nat :=
  let c0_i32_789 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_788 : BitVec 32 := 4#32
  let v977 : BitVec 32 := Scalar.muli v2 c4_i32_788
  let v978 : BitVec 32 := Scalar.addi c0_i32_789 v977
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_790 : BitVec 32 := 2#32
  let v979 : BitVec 32 := Scalar.muli v5 c2_i32_790
  let v980 : BitVec 32 := Scalar.addi v978 v979
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_791 : BitVec 32 := 1#32
  let v981 : BitVec 32 := Scalar.muli v11 c1_i32_791
  let v982 : BitVec 32 := Scalar.addi v980 v981
  v982.toNat
def k0_off4 (d0 : Dev nD) (c0_i32_794 : BitVec 32) : Fin 3 → Nat :=
  let c0_i32_796 : BitVec 32 := 0#32
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v16 : BitVec 32 := Scalar.muli c2_i32_8 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c512_i32_9 : BitVec 32 := 512#32
  let v18 : BitVec 32 := Scalar.muli v17 c512_i32_9
  let v989 : BitVec 32 := Scalar.addi v18 c0_i32_794
  let c0_i32_801 : BitVec 32 := 0#32
  ![0, v989.toNat, 0]
def k0_off5 (d0 : Dev nD) (c0_i32_795 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v16 : BitVec 32 := Scalar.muli c2_i32_8 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c512_i32_9 : BitVec 32 := 512#32
  let v18 : BitVec 32 := Scalar.muli v17 c512_i32_9
  let v990 : BitVec 32 := Scalar.addi v18 c0_i32_795
  let c0_i32_806 : BitVec 32 := 0#32
  ![v990.toNat, 0]
def k0_off6 (d0 : Dev nD) (c0_i32_853 : BitVec 32) : Fin 3 → Nat :=
  let c0_i32_855 : BitVec 32 := 0#32
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_10 v2
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.addi v19 v20
  let c512_i32_12 : BitVec 32 := 512#32
  let v22 : BitVec 32 := Scalar.muli v21 c512_i32_12
  let v1060 : BitVec 32 := Scalar.addi v22 c0_i32_853
  let c0_i32_860 : BitVec 32 := 0#32
  ![0, v1060.toNat, 0]
def k0_off7 (d0 : Dev nD) (c0_i32_854 : BitVec 32) : Fin 2 → Nat :=
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_10 v2
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.addi v19 v20
  let c512_i32_12 : BitVec 32 := 512#32
  let v22 : BitVec 32 := Scalar.muli v21 c512_i32_12
  let v1061 : BitVec 32 := Scalar.addi v22 c0_i32_854
  let c0_i32_865 : BitVec 32 := 0#32
  ![v1061.toNat, 0]
def k0_off8 (d0 : Dev nD) (c0_i32_885 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v16 : BitVec 32 := Scalar.muli c2_i32_8 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c512_i32_9 : BitVec 32 := 512#32
  let v18 : BitVec 32 := Scalar.muli v17 c512_i32_9
  let v1091 : BitVec 32 := Scalar.addi v18 c0_i32_885
  let v1092 : Index := Scalar.indexCast v1091
  let c0_886 : Index := 0#32
  ![v1092.toNat, 0]
def k0_dev28 (d0 : Dev nD) : Nat :=
  let c0_i32_915 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_914 : BitVec 32 := 4#32
  let v1131 : BitVec 32 := Scalar.muli v10 c4_i32_914
  let v1132 : BitVec 32 := Scalar.addi c0_i32_915 v1131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_916 : BitVec 32 := 2#32
  let v1133 : BitVec 32 := Scalar.muli v5 c2_i32_916
  let v1134 : BitVec 32 := Scalar.addi v1132 v1133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_917 : BitVec 32 := 1#32
  let v1135 : BitVec 32 := Scalar.muli v8 c1_i32_917
  let v1136 : BitVec 32 := Scalar.addi v1134 v1135
  v1136.toNat
def k0_off9 (d0 : Dev nD) (c0_i32_952 : BitVec 32) : Fin 2 → Nat :=
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_10 v2
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.addi v19 v20
  let c512_i32_12 : BitVec 32 := 512#32
  let v22 : BitVec 32 := Scalar.muli v21 c512_i32_12
  let v1174 : BitVec 32 := Scalar.addi v22 c0_i32_952
  let v1175 : Index := Scalar.indexCast v1174
  let c0_953 : Index := 0#32
  ![v1175.toNat, 0]
def k0_dev29 (d0 : Dev nD) : Nat :=
  let c0_i32_1041 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1040 : BitVec 32 := 4#32
  let v1285 : BitVec 32 := Scalar.muli v10 c4_i32_1040
  let v1286 : BitVec 32 := Scalar.addi c0_i32_1041 v1285
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1042 : BitVec 32 := 2#32
  let v1287 : BitVec 32 := Scalar.muli v5 c2_i32_1042
  let v1288 : BitVec 32 := Scalar.addi v1286 v1287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1043 : BitVec 32 := 1#32
  let v1289 : BitVec 32 := Scalar.muli v8 c1_i32_1043
  let v1290 : BitVec 32 := Scalar.addi v1288 v1289
  v1290.toNat
def k0_dev30 (d0 : Dev nD) : Nat :=
  let c0_i32_1167 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1166 : BitVec 32 := 4#32
  let v1439 : BitVec 32 := Scalar.muli v10 c4_i32_1166
  let v1440 : BitVec 32 := Scalar.addi c0_i32_1167 v1439
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1168 : BitVec 32 := 2#32
  let v1441 : BitVec 32 := Scalar.muli v5 c2_i32_1168
  let v1442 : BitVec 32 := Scalar.addi v1440 v1441
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1169 : BitVec 32 := 1#32
  let v1443 : BitVec 32 := Scalar.muli v8 c1_i32_1169
  let v1444 : BitVec 32 := Scalar.addi v1442 v1443
  v1444.toNat
def k0_dev31 (d0 : Dev nD) : Nat :=
  let c0_i32_1293 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1292 : BitVec 32 := 4#32
  let v1593 : BitVec 32 := Scalar.muli v10 c4_i32_1292
  let v1594 : BitVec 32 := Scalar.addi c0_i32_1293 v1593
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1294 : BitVec 32 := 2#32
  let v1595 : BitVec 32 := Scalar.muli v5 c2_i32_1294
  let v1596 : BitVec 32 := Scalar.addi v1594 v1595
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1295 : BitVec 32 := 1#32
  let v1597 : BitVec 32 := Scalar.muli v8 c1_i32_1295
  let v1598 : BitVec 32 := Scalar.addi v1596 v1597
  v1598.toNat
def k0_dev32 (d0 : Dev nD) : Nat :=
  let c0_i32_1360 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1359 : BitVec 32 := 4#32
  let v1676 : BitVec 32 := Scalar.muli v2 c4_i32_1359
  let v1677 : BitVec 32 := Scalar.addi c0_i32_1360 v1676
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1361 : BitVec 32 := 2#32
  let v1678 : BitVec 32 := Scalar.muli v5 c2_i32_1361
  let v1679 : BitVec 32 := Scalar.addi v1677 v1678
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1362 : BitVec 32 := 1#32
  let v1680 : BitVec 32 := Scalar.muli v11 c1_i32_1362
  let v1681 : BitVec 32 := Scalar.addi v1679 v1680
  v1681.toNat
def k0_dev33 (d0 : Dev nD) : Nat :=
  let c0_i32_1486 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1485 : BitVec 32 := 4#32
  let v1830 : BitVec 32 := Scalar.muli v2 c4_i32_1485
  let v1831 : BitVec 32 := Scalar.addi c0_i32_1486 v1830
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1487 : BitVec 32 := 2#32
  let v1832 : BitVec 32 := Scalar.muli v5 c2_i32_1487
  let v1833 : BitVec 32 := Scalar.addi v1831 v1832
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1488 : BitVec 32 := 1#32
  let v1834 : BitVec 32 := Scalar.muli v11 c1_i32_1488
  let v1835 : BitVec 32 := Scalar.addi v1833 v1834
  v1835.toNat
def k0_dev34 (d0 : Dev nD) : Nat :=
  let c0_i32_1612 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1611 : BitVec 32 := 4#32
  let v1984 : BitVec 32 := Scalar.muli v2 c4_i32_1611
  let v1985 : BitVec 32 := Scalar.addi c0_i32_1612 v1984
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1613 : BitVec 32 := 2#32
  let v1986 : BitVec 32 := Scalar.muli v5 c2_i32_1613
  let v1987 : BitVec 32 := Scalar.addi v1985 v1986
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1614 : BitVec 32 := 1#32
  let v1988 : BitVec 32 := Scalar.muli v11 c1_i32_1614
  let v1989 : BitVec 32 := Scalar.addi v1987 v1988
  v1989.toNat
def k0_dev35 (d0 : Dev nD) : Nat :=
  let c0_i32_1738 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1737 : BitVec 32 := 4#32
  let v2138 : BitVec 32 := Scalar.muli v2 c4_i32_1737
  let v2139 : BitVec 32 := Scalar.addi c0_i32_1738 v2138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1739 : BitVec 32 := 2#32
  let v2140 : BitVec 32 := Scalar.muli v5 c2_i32_1739
  let v2141 : BitVec 32 := Scalar.addi v2139 v2140
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1740 : BitVec 32 := 1#32
  let v2142 : BitVec 32 := Scalar.muli v11 c1_i32_1740
  let v2143 : BitVec 32 := Scalar.addi v2141 v2142
  v2143.toNat
def k0_off10 (d0 : Dev nD) (c0_i32_1802 : BitVec 32) : Fin 3 → Nat :=
  let c0_i32_1804 : BitVec 32 := 0#32
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c512_i32_16 : BitVec 32 := 512#32
  let v27 : BitVec 32 := Scalar.muli v26 c512_i32_16
  let v2221 : BitVec 32 := Scalar.addi v27 c0_i32_1802
  let c0_i32_1809 : BitVec 32 := 0#32
  ![0, v2221.toNat, 0]
def k0_off11 (d0 : Dev nD) (c0_i32_1803 : BitVec 32) : Fin 2 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c512_i32_16 : BitVec 32 := 512#32
  let v27 : BitVec 32 := Scalar.muli v26 c512_i32_16
  let v2222 : BitVec 32 := Scalar.addi v27 c0_i32_1803
  let c0_i32_1814 : BitVec 32 := 0#32
  ![v2222.toNat, 0]
def k0_off12 (d0 : Dev nD) (c0_i32_1893 : BitVec 32) : Fin 2 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c512_i32_16 : BitVec 32 := 512#32
  let v27 : BitVec 32 := Scalar.muli v26 c512_i32_16
  let v2323 : BitVec 32 := Scalar.addi v27 c0_i32_1893
  let v2324 : Index := Scalar.indexCast v2323
  let c0_1894 : Index := 0#32
  ![v2324.toNat, 0]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x2048 : Shape := ⟨3, ![2, 2048, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S1x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Program.lean ====
/-
The kernel's body as a program of thirty-two equal steps.

The printed body is one long sequence of statements cut into parts at fixed lengths. Here the same sequence is
written as the kernel's own text has it: the barrier handshake, the staging of this device's quarter, then one
step per chunk of 64 rows, then the waits on the sends. `body_eq` says the two are the same program, so that the proof
runs one step at a symbolic index instead of thirty-two printed ones.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.RA Idealize.SL.BI
open Idealize.SL.Sem

variable {F : FTy → Type} [FloatOps F]

/-! ## Semaphores and memory regions -/

/-- DMA semaphore number `n` of the kernel's pool. -/
def dS (n : ℕ) : DmaSem sig := ⟨n % 79, Nat.mod_lt _ (by decide)⟩

/-- The runtime's barrier semaphore. -/
abbrev barS : Sem sig := (SemArray.scalar (sig.barrier 0 rfl) : Sems sig S_).sem

abbrev partM : Memref sig .tc .hbm S1x2048x2048 .f32 := Memref.whole main_arg0
abbrev resM : Memref sig .tc .hbm S2048x2048 .f32 := Memref.whole main_arg1
abbrev gamM : Memref sig .tc .vmem S1x2048 .f32 := Memref.whole cc0_stg0_0
abbrev outM : Memref sig .tc .hbm S2048x2048 .f32 := Memref.whole main_v1
abbrev peerM : Memref sig .tc .vmem S2048x2048 .f32 := Memref.whole cc0_scratch0
abbrev sbufM : Memref sig .tc .vmem S512x2048 .f32 := Memref.whole cc0_scratch1
abbrev pbufM : Memref sig .tc .vmem S2x64x2048 .f32 := Memref.whole cc0_scratch2
abbrev rbufM : Memref sig .tc .vmem S2x64x2048 .f32 := Memref.whole cc0_scratch3
abbrev obufM : Memref sig .tc .vmem S2x64x2048 .f32 := Memref.whole cc0_scratch4

/-- Where a step's chunk of rows starts: in the partial sums (`o3`), in a 2048×2048 array as a transfer names it (`o2`)
    and as a load names it (`oL`). -/
structure Row where
  o3 : Fin 3 → ℕ
  h3 : ∀ a, o3 a + S1x64x2048.size a ≤ S1x2048x2048.size a
  o2 : Fin 2 → ℕ
  h2 : ∀ a, o2 a + S64x2048.size a ≤ S2048x2048.size a
  oL : Fin 2 → ℕ
  hL : ∀ a, oL a + S64x2048.size a ≤ S2048x2048.size a

/-- The number of a step's chunk within its quarter. -/
def ck (t : ℕ) : Fin 8 := ⟨(if t < 8 then t else if t < 24 then (t - 8) / 2 else t - 24) % 8, Nat.mod_lt _ (by decide)⟩

/-- Chunk `r` of the quarter this device's column sums first: its own. -/
def rowM (d : Dev nD) (r : Fin 8) : Row :=
  ⟨k0_off1 d (BitVec.ofNat 32 (64 * r.val)), k0_off1_inb d r, k0_off2 d (BitVec.ofNat 32 (64 * r.val)), k0_off2_inb d r,
    k0_off3 d (BitVec.ofNat 32 (64 * r.val)), k0_off3_inb d r⟩
/-- Chunk `r` of the quarter that comes from the neighbour along x. -/
def rowX (d : Dev nD) (r : Fin 8) : Row :=
  ⟨k0_off4 d (BitVec.ofNat 32 (64 * r.val)), k0_off4_inb d r, k0_off5 d (BitVec.ofNat 32 (64 * r.val)), k0_off5_inb d r,
    k0_off8 d (BitVec.ofNat 32 (64 * r.val)), k0_off8_inb d r⟩
/-- Chunk `r` of the quarter that comes from the neighbour along z. -/
def rowZ (d : Dev nD) (r : Fin 8) : Row :=
  ⟨k0_off6 d (BitVec.ofNat 32 (64 * r.val)), k0_off6_inb d r, k0_off7 d (BitVec.ofNat 32 (64 * r.val)), k0_off7_inb d r,
    k0_off9 d (BitVec.ofNat 32 (64 * r.val)), k0_off9_inb d r⟩
/-- Chunk `r` of the quarter forwarded twice. -/
def rowD (d : Dev nD) (r : Fin 8) : Row :=
  ⟨k0_off10 d (BitVec.ofNat 32 (64 * r.val)), k0_off10_inb d r, k0_off11 d (BitVec.ofNat 32 (64 * r.val)), k0_off11_inb d r,
    k0_off12 d (BitVec.ofNat 32 (64 * r.val)), k0_off12_inb d r⟩

/-- The chunk of step `t`: eight of the own quarter, then those of x and z alternating, then those of the last quarter. -/
def row (d : Dev nD) (t : ℕ) : Row :=
  if t < 8 then rowM d (ck t) else if t < 24 then (if t % 2 = 0 then rowX d (ck t) else rowZ d (ck t)) else rowD d (ck t)

/-- The 64 rows of a 2048×2048 array from an offset. -/
abbrev rows2 {sp : Space} (M : Memref sig .tc sp S2048x2048 .f32) (o : Fin 2 → ℕ) (h : ∀ a, o a + S64x2048.size a ≤ S2048x2048.size a) :
    Memref sig .tc sp S64x2048 .f32 := M.slice (Rect.unit (s := S2048x2048) o S64x2048.size h) (fun _ => rfl)
/-- The 64 rows of the partial sums' block from an offset. -/
abbrev rows3 (o : Fin 3 → ℕ) (h : ∀ a, o a + S1x64x2048.size a ≤ S1x2048x2048.size a) : Memref sig .tc .hbm S64x2048 .f32 :=
  ((partM).slice (Rect.unit (s := S1x2048x2048) o S1x64x2048.size h) (fun _ => rfl)).squeeze S64x2048 squeezes_S1x64x2048_S64x2048

theorem slot_inb (j : ℕ) : ∀ a, (![j % 2, 0, 0] : Fin 3 → ℕ) a + S1x64x2048.size a ≤ S2x64x2048.size a := by
  intro a
  have := Nat.mod_lt j (show 0 < 2 by decide)
  fin_cases a
  · show j % 2 + 1 ≤ 2; omega
  · exact Nat.le_refl _
  · exact Nat.le_refl _
theorem sbuf_inb (r : Fin 8) : ∀ a, (![64 * r.val, 0] : Fin 2 → ℕ) a + S64x2048.size a ≤ S512x2048.size a := by
  intro a
  have := r.isLt
  fin_cases a
  · show 64 * r.val + 64 ≤ 512; omega
  · exact Nat.le_refl _

/-- The rectangle of step `j`'s slot of a two-slot buffer. -/
abbrev slotR (j : ℕ) : Rect S2x64x2048 := Rect.unit (s := S2x64x2048) ![j % 2, 0, 0] S1x64x2048.size (slot_inb j)
/-- Step `j`'s slot of a two-slot buffer. -/
abbrev slotM (M : Memref sig .tc .vmem S2x64x2048 .f32) (j : ℕ) : Memref sig .tc .vmem S64x2048 .f32 :=
  (M.slice (slotR j) (fun _ => rfl)).squeeze S64x2048 squeezes_S1x64x2048_S64x2048
/-- Chunk `r` of the staged quarter. -/
abbrev sbufC (r : Fin 8) : Memref sig .tc .vmem S64x2048 .f32 :=
  (sbufM).slice (Rect.unit (s := S512x2048) ![64 * r.val, 0] S64x2048.size (sbuf_inb r)) (fun _ => rfl)

/-- Step `t`'s chunk of the landing buffer, of the residual, of the result and of the partial sums. -/
abbrev peerC (d : Dev nD) (t : ℕ) : Memref sig .tc .vmem S64x2048 .f32 := rows2 peerM (row d t).o2 (row d t).h2
abbrev resC (d : Dev nD) (t : ℕ) : Memref sig .tc .hbm S64x2048 .f32 := rows2 resM (row d t).o2 (row d t).h2
abbrev outC (d : Dev nD) (t : ℕ) : Memref sig .tc .hbm S64x2048 .f32 := rows2 outM (row d t).o2 (row d t).h2
abbrev partC (d : Dev nD) (t : ℕ) : Memref sig .tc .hbm S64x2048 .f32 := rows3 (row d t).o3 (row d t).h3

/-! ## The peers -/

/-- The neighbours along y, x and z. -/
def py (d : Dev nD) : Dev nD := ⟨k0_dev1 d, k0_dev1_lt d⟩
def px (d : Dev nD) : Dev nD := ⟨k0_dev2 d, k0_dev2_lt d⟩
def pz (d : Dev nD) : Dev nD := ⟨k0_dev3 d, k0_dev3_lt d⟩

/-! ## The statements -/

/-- Programs of the kernel's body. -/
abbrev PR (F : FTy → Type) : Type 1 := Prog (TpuEff nD τ sig (Elt F) Λ₀ .tc) PUnit

/-- A local copy on DMA semaphore `s`. -/
abbrev copyHere {sp sp' : Space} (src : Memref sig .tc sp S64x2048 .f32) (dst : Memref sig .tc sp' S64x2048 .f32) (s : ℕ)
    (h1 : src.view.WordExact) (h2 : dst.view.WordExact) (h3 : DmaTarget.Typed (nD := nD) (τ := τ) (p := .tc) sp (.dma (dS s)) (.here dst)) (k : PR F) : PR F :=
  Prog.op (.enqueueDma src (.here dst) (.dma (dS s)) h1 h2 h3) fun _ => k

/-- A copy to the landing buffer's rows of device `n`, send semaphore `s`, receive semaphore `r`. -/
abbrev copyTo (n : Dev nD) (src dst : Memref sig .tc .vmem S64x2048 .f32) (s r : ℕ)
    (h1 : src.view.WordExact) (h2 : dst.view.WordExact) (h0 : dst.view.ref.isScScratch = false) (k : PR F) : PR F :=
  Prog.op (.enqueueDma src (.remote (Dev.tc n) dst (.dma (dS s)) h0) (.dma (dS r)) h1 h2 ⟨⟨rfl, Or.inl rfl⟩, trivial⟩) fun _ => k

/-- A wait on DMA semaphore `s`. -/
abbrev waitOn {sp sp' : Space} (s : ℕ) (src : Memref sig .tc sp S64x2048 .f32) (dst : Memref sig .tc sp' S64x2048 .f32)
    (h1 : src.view.WordExact) (h2 : dst.view.WordExact) (k : PR F) : PR F :=
  Prog.op (.waitDma2 (dS s) src dst h1 h2) fun _ => k

/-- The start of the copies of step `t`'s partial sums and residual into its slot. -/
def stageIn (d : Dev nD) (t : ℕ) (k : PR F) : PR F :=
  copyHere (partC d t) (slotM pbufM t) (73 + t % 2) ((View.wordExact_bits rfl).reshape _ _) ((View.wordExact_bits rfl).reshape _ _) ⟨Or.inl rfl, trivial⟩ <|
  copyHere (resC d t) (slotM rbufM t) (75 + t % 2) (View.wordExact_bits rfl) ((View.wordExact_bits rfl).reshape _ _) ⟨Or.inl rfl, trivial⟩ k

/-- The wait for step `t`'s chunk of the other half's partial sums. -/
def recvWait (d : Dev nD) (t : ℕ) (k : PR F) : PR F :=
  if t < 8 then waitOn (9 + ck t) (sbufC (ck t)) (peerC d t) (View.wordExact_bits rfl) (View.wordExact_bits rfl) k
  else if t < 24 then
    waitOn (if t % 2 = 0 then 25 + ck t else 41 + ck t) (peerC d (ck t)) (peerC d (ck t)) (View.wordExact_bits rfl) (View.wordExact_bits rfl) k
  else if t < 28 then waitOn (53 + (t - 24)) (peerC d (9 + 2 * (t - 24))) (peerC d (9 + 2 * (t - 24))) (View.wordExact_bits rfl) (View.wordExact_bits rfl) k
  else waitOn (61 + (t - 28)) (peerC d (8 + 2 * (t - 24))) (peerC d (8 + 2 * (t - 24))) (View.wordExact_bits rfl) (View.wordExact_bits rfl) k

/-- The copies step `t` starts once its chunk is there: the own quarter's to both neighbours along x and z, the second half of
    the x quarter on along z, the first half of the z quarter on along x. -/
def starts (d : Dev nD) (t : ℕ) (k : PR F) : PR F :=
  if t < 8 then
    copyTo (px d) (peerC d t) (peerC d t) (17 + ck t) (25 + ck t) (View.wordExact_bits rfl) (View.wordExact_bits rfl) rfl <|
    copyTo (pz d) (peerC d t) (peerC d t) (33 + ck t) (41 + ck t) (View.wordExact_bits rfl) (View.wordExact_bits rfl) rfl k
  else if t < 24 then
    if t % 2 = 0 then
      if 16 ≤ t then copyTo (pz d) (peerC d t) (peerC d t) (57 + ((ck t).val - 4)) (61 + ((ck t).val - 4)) (View.wordExact_bits rfl) (View.wordExact_bits rfl) rfl k
      else k
    else
      if t < 16 then copyTo (px d) (peerC d t) (peerC d t) (49 + ck t) (53 + ck t) (View.wordExact_bits rfl) (View.wordExact_bits rfl) rfl k
      else k
  else k

/-- The wait for the result copy of step `t`. -/
def outWait (d : Dev nD) (t : ℕ) (k : PR F) : PR F :=
  waitOn (77 + t % 2) (slotM obufM t) (outC d t) ((View.wordExact_bits rfl).reshape _ _) (View.wordExact_bits rfl) k

/-- The wait for the two copies into step `t`'s slot. -/
def inWait (d : Dev nD) (t : ℕ) (k : PR F) : PR F :=
  waitOn (73 + t % 2) (partC d t) (slotM pbufM t) ((View.wordExact_bits rfl).reshape _ _) ((View.wordExact_bits rfl).reshape _ _) <|
  waitOn (75 + t % 2) (resC d t) (slotM rbufM t) (View.wordExact_bits rfl) ((View.wordExact_bits rfl).reshape _ _) k

/-- One chunk's result from the four blocks a step loads: own partial sums, the other half's, the residual and gamma. -/
def pay (p : Vec F S1x64x2048 .f32) (q : Vec F S64x2048 .f32) (r : Vec F S1x64x2048 .f32) (g : Vec F S1x2048 .f32) : FVec F S1x64x2048 .f32 :=
  k0_pay2 (k0_pay1 p) q r g

/-- The rectangle of step `t`'s rows as a load names it, and gamma's. -/
abbrev rowR (d : Dev nD) (t : ℕ) : Rect S2048x2048 := Rect.unit (s := S2048x2048) (row d t).oL S64x2048.size (row d t).hL
abbrev gamR : Rect S1x2048 := Rect.unit (s := S1x2048) ![0, 0] S1x2048.size inb_S1x2048_S1x2048_0_0

/-- Step `t`'s loads and its store. -/
def compute (d : Dev nD) (t : ℕ) (k : PR F) : PR F :=
  Prog.op (.load pbufM (slotR t).toLoadRect (View.loadsAt_vmem h_S1x64x2048)) fun p =>
  Prog.op (.load peerM (rowR d t).toLoadRect (View.loadsAt_vmem h_S64x2048)) fun q =>
  Prog.op (.load rbufM (slotR t).toLoadRect (View.loadsAt_vmem h_S1x64x2048)) fun r =>
  Prog.op (.load gamM gamR.toLoadRect (View.loadsAt_vmem h_S1x2048)) fun g =>
  Prog.op (.load obufM (slotR t).toLoadRect (View.loadsAt_vmem h_S1x64x2048)) fun _ =>
  Prog.op (.store obufM (slotR t) (pay p q r g) Finset.univ (View.stores_vmem_bits_univ h_S1x64x2048 rfl) (.inl rfl)) fun _ => k

/-- The start of step `t`'s result copy. -/
def outStart (d : Dev nD) (t : ℕ) (k : PR F) : PR F :=
  copyHere (slotM obufM t) (outC d t) (77 + t % 2) ((View.wordExact_bits rfl).reshape _ _) (View.wordExact_bits rfl) ⟨Or.inl rfl, trivial⟩ k

/-- Step `t`. -/
def step (d : Dev nD) (t : ℕ) (k : PR F) : PR F :=
  recvWait d t <| starts d t <|
  (fun k => if t + 1 < 32 then stageIn d (t + 1) k else k) <|
  inWait d t <|
  (fun k => if 2 ≤ t then outWait d (t - 2) k else k) <|
  compute d t <| outStart d t k

/-- The start of the copy of chunk `t` of the own quarter to the staging buffer; the wait for it and its copy to the y neighbour. -/
def stage (d : Dev nD) (t : ℕ) (k : PR F) : PR F :=
  copyHere (partC d t) (sbufC (ck t)) (65 + ck t) ((View.wordExact_bits rfl).reshape _ _) (View.wordExact_bits rfl) ⟨Or.inl rfl, trivial⟩ k
def exch (d : Dev nD) (t : ℕ) (k : PR F) : PR F :=
  waitOn (65 + ck t) (partC d t) (sbufC (ck t)) ((View.wordExact_bits rfl).reshape _ _) (View.wordExact_bits rfl) <|
  copyTo (py d) (sbufC (ck t)) (peerC d t) (1 + ck t) (9 + ck t) (View.wordExact_bits rfl) (View.wordExact_bits rfl) rfl k

/-- The waits on the sends of chunk `t`: to y, x and z; then on the two forwarded ones. -/
def sentA (d : Dev nD) (t : ℕ) (k : PR F) : PR F :=
  waitOn (1 + ck t) (peerC d t) (sbufC (ck t)) (View.wordExact_bits rfl) (View.wordExact_bits rfl) <|
  waitOn (17 + ck t) (peerC d t) (peerC d t) (View.wordExact_bits rfl) (View.wordExact_bits rfl) <|
  waitOn (33 + ck t) (peerC d t) (peerC d t) (View.wordExact_bits rfl) (View.wordExact_bits rfl) k
def sentB (d : Dev nD) (t : ℕ) (k : PR F) : PR F :=
  waitOn (49 + t) (peerC d (9 + 2 * t)) (peerC d (9 + 2 * t)) (View.wordExact_bits rfl) (View.wordExact_bits rfl) <|
  waitOn (57 + t) (peerC d (16 + 2 * t)) (peerC d (16 + 2 * t)) (View.wordExact_bits rfl) (View.wordExact_bits rfl) k

/-- `f` at `t`, `t + 1`, …, `n` times. -/
def rep (f : ℕ → PR F → PR F) : ℕ → ℕ → PR F → PR F
  | 0, _, k => k
  | n + 1, t, k => f t (rep f n (t + 1) k)

/-- A signal of one unit to the barrier of `n`; the wait for three. -/
abbrev signal (n : Dev nD) (k : PR F) : PR F := Prog.op (.semSignal (n, .tc) barS (1#32 : BitVec 32).toInt) fun _ => k

/-- The body after it has read its device. -/
def prog (d : Dev nD) : PR F :=
  signal (py d) <| signal (px d) <| signal (pz d) <|
  Prog.op (.semWait barS (3#32 : BitVec 32).toInt) fun _ =>
  rep (stage d) 8 0 <| rep (exch d) 8 0 <| stageIn d 0 <| rep (step d) 32 0 <|
  outWait d 30 <| outWait d 31 <| rep (sentA d) 8 0 <| rep (sentB d) 4 0 <| Prog.ret ⟨⟩

set_option maxRecDepth 65536 in
/-- The printed body is that program. -/
theorem body_eq : (cc0_body (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 : PR F)
    = Prog.op .deviceId prog := by
  chain_rfl

end Cert.AllReduce

end
-- ==== Proof.Rows.lean ====
/-
Which rows each step of the kernel touches, and which element sets its memory regions are.

An array of 2048 rows is cut into thirty-two chunks of 64 rows. Step `t` of device `d` works on chunk `ord d t`;
the thirty-two remote copies a device starts and the thirty-two it receives are numbered the same way.
-/
module

public import proofs.«01_k».proof.Proof.Program
public import Idealize.ShloMosaic.Lib.ValueLayout
public import Idealize.ShloMosaic.Lib.Ring
public import Idealize.SL.BI.BigOpNat

@[expose] public section

noncomputable section

namespace Cert.AllReduce

open Cert.KernelIdeal Cert.KernelIdeal.Gen

open Idealize.ShloMosaic
open Idealize.ShloMosaic.TcCoe
open Idealize.SL Idealize.SL.RA Idealize.SL.BI
open Idealize.SL.Sem

open Idealize.ShloMosaic.ValueIdx

variable {F : FTy → Type} [FloatOps F]

/-! ## Numbers -/

/-- The chunk of step `t`. -/
def ord (d : Dev nD) (t : ℕ) : ℕ :=
  if t < 8 then 16 * (d.val / 4) + 8 * (d.val % 2) + t
  else if t < 24 then
    if t % 2 = 0 then 16 * (1 - d.val / 4) + 8 * (d.val % 2) + (t - 8) / 2
    else 16 * (d.val / 4) + 8 * (1 - d.val % 2) + (t - 8) / 2
  else 16 * (1 - d.val / 4) + 8 * (1 - d.val % 2) + (t - 24)

/-- The direction of remote copy `j`: 0 along y, 1 along x, 2 along z. -/
def dir (j : ℕ) : Fin 3 := if j < 8 then 0 else if j < 24 then (if j % 2 = 0 then 1 else 2) else if j < 28 then 1 else 2

/-- The neighbour in a direction. -/
def peer : Fin 3 → Dev nD → Dev nD
  | 0 => py
  | 1 => px
  | 2 => pz

/-- Where copy `j` goes (and where the copy received as number `j` comes from). -/
def dest (d : Dev nD) (j : ℕ) : Dev nD := peer (dir j) d

/-- The numbers of copy `j`'s send and receive semaphores. -/
def sNum (j : ℕ) : ℕ :=
  if j < 8 then 1 + j else if j < 24 then (if j % 2 = 0 then 17 + (j - 8) / 2 else 33 + (j - 8) / 2)
  else if j < 28 then 49 + (j - 24) else 57 + (j - 28)
def rNum (j : ℕ) : ℕ :=
  if j < 8 then 9 + j else if j < 24 then (if j % 2 = 0 then 25 + (j - 8) / 2 else 41 + (j - 8) / 2)
  else if j < 28 then 53 + (j - 24) else 61 + (j - 28)

/-- The step whose chunk copy `j` forwards. -/
def srcT (j : ℕ) : ℕ :=
  if j < 24 then (j - 8) / 2 else if j < 28 then 9 + 2 * (j - 24) else 16 + 2 * (j - 28)

theorem ord_lt : ∀ (d : Dev nD) (t : Fin 32), ord d t < 32 := by decide +kernel
theorem ord_inj : ∀ (d : Dev nD) (t t' : Fin 32), ord d t = ord d t' → t = t' := by decide +kernel
theorem ord_surj : ∀ (d : Dev nD) (g : Fin 32), ∃ t : Fin 32, ord d t = g := by decide +kernel
theorem ord_dest_y : ∀ (d : Dev nD) (j : Fin 8), ord (py d) j = ord d j := by decide +kernel
theorem ord_dest : ∀ (d : Dev nD) (j : Fin 32), 8 ≤ j.val → ord (dest d j) j = ord d (srcT j) := by decide +kernel
theorem peer_peer : ∀ (a : Fin 3) (d : Dev nD), peer a (peer a d) = d := by decide +kernel
theorem dest_dest (d : Dev nD) (j : ℕ) : dest (dest d j) j = d := peer_peer _ _
theorem sNum_lt : ∀ j : Fin 32, 1 ≤ sNum j ∧ sNum j < 65 := by decide +kernel
theorem rNum_lt : ∀ j : Fin 32, 1 ≤ rNum j ∧ rNum j < 65 := by decide +kernel
theorem sNum_inj : ∀ i j : Fin 32, sNum i = sNum j → i = j := by decide +kernel
theorem rNum_inj : ∀ i j : Fin 32, rNum i = rNum j → i = j := by decide +kernel
theorem sNum_ne_rNum : ∀ i j : Fin 32, sNum i ≠ rNum j := by decide +kernel

theorem row_o2 : ∀ (d : Dev nD) (t : Fin 32), (row d t).o2 = ![64 * ord d t, 0] := by decide +kernel
theorem row_oL : ∀ (d : Dev nD) (t : Fin 32), (row d t).oL = ![64 * ord d t, 0] := by decide +kernel
theorem row_o3 : ∀ (d : Dev nD) (t : Fin 32), (row d t).o3 = ![0, 64 * ord d t, 0] := by decide +kernel

theorem ordlt (d : Dev nD) {t : ℕ} (ht : t < 32) : ord d t < 32 := ord_lt d ⟨t, ht⟩
theorem row2 (d : Dev nD) {t : ℕ} (ht : t < 32) : (row d t).o2 = ![64 * ord d t, 0] := row_o2 d ⟨t, ht⟩
theorem rowL (d : Dev nD) {t : ℕ} (ht : t < 32) : (row d t).oL = ![64 * ord d t, 0] := row_oL d ⟨t, ht⟩
theorem row3 (d : Dev nD) {t : ℕ} (ht : t < 32) : (row d t).o3 = ![0, 64 * ord d t, 0] := row_o3 d ⟨t, ht⟩

/-! ## Element sets -/

/-- Rows `64 g … 64 g + 63` of a 2048×2048 array, of the partial sums' block, of the staged quarter; slot `b` of a two-slot buffer. -/
def rset (g : ℕ) : Finset S2048x2048.Idx := Finset.univ.filter fun p => (p 0).val / 64 = g
def pset (g : ℕ) : Finset S1x2048x2048.Idx := Finset.univ.filter fun p => (p 1).val / 64 = g
def qset (g : ℕ) : Finset S512x2048.Idx := Finset.univ.filter fun p => (p 0).val / 64 = g
def bset (b : ℕ) : Finset S2x64x2048.Idx := Finset.univ.filter fun p => (p 0).val = b

theorem mem_rset {g : ℕ} {p : S2048x2048.Idx} : p ∈ rset g ↔ (p 0).val / 64 = g := by simp [rset]
theorem mem_pset {g : ℕ} {p : S1x2048x2048.Idx} : p ∈ pset g ↔ (p 1).val / 64 = g := by simp [pset]
theorem mem_qset {g : ℕ} {p : S512x2048.Idx} : p ∈ qset g ↔ (p 0).val / 64 = g := by simp [qset]
theorem mem_bset {b : ℕ} {p : S2x64x2048.Idx} : p ∈ bset b ↔ (p 0).val = b := by simp [bset]

theorem rset_disj {g h : ℕ} (hne : g ≠ h) : Disjoint (rset g) (rset h) :=
  Finset.disjoint_left.mpr fun p hp hq => hne ((mem_rset.1 hp).symm.trans (mem_rset.1 hq))
theorem pset_disj {g h : ℕ} (hne : g ≠ h) : Disjoint (pset g) (pset h) :=
  Finset.disjoint_left.mpr fun p hp hq => hne ((mem_pset.1 hp).symm.trans (mem_pset.1 hq))
theorem qset_disj {g h : ℕ} (hne : g ≠ h) : Disjoint (qset g) (qset h) :=
  Finset.disjoint_left.mpr fun p hp hq => hne ((mem_qset.1 hp).symm.trans (mem_qset.1 hq))
theorem bset_disj {g h : ℕ} (hne : g ≠ h) : Disjoint (bset g) (bset h) :=
  Finset.disjoint_left.mpr fun p hp hq => hne ((mem_bset.1 hp).symm.trans (mem_bset.1 hq))

/-- The steps' chunks make up the array. -/
theorem rset_cover (d : Dev nD) : (Finset.range 32).biUnion (fun t => rset (ord d t)) = Finset.univ := by
  ext p
  simp only [Finset.mem_biUnion, Finset.mem_range, Finset.mem_univ, iff_true]
  have hp : (p 0).val < 2048 := (p 0).isLt
  obtain ⟨t, ht⟩ := ord_surj d ⟨(p 0).val / 64, by omega⟩
  exact ⟨t, t.isLt, mem_rset.2 ht.symm⟩
theorem pset_cover (d : Dev nD) : (Finset.range 32).biUnion (fun t => pset (ord d t)) = Finset.univ := by
  ext p
  simp only [Finset.mem_biUnion, Finset.mem_range, Finset.mem_univ, iff_true]
  have hp : (p 1).val < 2048 := (p 1).isLt
  obtain ⟨t, ht⟩ := ord_surj d ⟨(p 1).val / 64, by omega⟩
  exact ⟨t, t.isLt, mem_pset.2 ht.symm⟩
theorem qset_cover : (Finset.range 8).biUnion qset = Finset.univ := by
  ext p
  simp only [Finset.mem_biUnion, Finset.mem_range, Finset.mem_univ, iff_true]
  have hp : (p 0).val < 512 := (p 0).isLt
  exact ⟨(p 0).val / 64, by omega, mem_qset.2 rfl⟩
theorem bset_cover : (Finset.range 2).biUnion bset = Finset.univ := by
  ext p
  simp only [Finset.mem_biUnion, Finset.mem_range, Finset.mem_univ, iff_true]
  have hp : (p 0).val < 2 := (p 0).isLt
  exact ⟨(p 0).val, hp, mem_bset.2 rfl⟩
theorem ord_ne (d : Dev nD) {t t' : ℕ} (ht : t < 32) (ht' : t' < 32) (h : t ≠ t') : ord d t ≠ ord d t' := fun e =>
  h (congrArg Fin.val (ord_inj d ⟨t, ht⟩ ⟨t', ht'⟩ e))

/-! ## The views' embeddings -/

/-- Row `i` of chunk `g`. -/
abbrev rowOf (g : ℕ) (i : Fin 64) : Fin 2048 := ⟨(64 * g + i.val) % 2048, Nat.mod_lt _ (by decide)⟩

theorem rect2_emb (o : Fin 2 → ℕ) (h : ∀ a, o a + S64x2048.size a ≤ S2048x2048.size a) {g : ℕ} (hg : g < 32) (e : o = ![64 * g, 0])
    (x : S64x2048.Idx) : ((Rect.unit (s := S2048x2048) o S64x2048.size h).emb x : S2048x2048.Idx) = ix2 (rowOf g (x 0)) (x 1) := by
  have h0 : (x 0).val < 64 := (x 0).isLt
  subst e
  funext a
  apply Fin.ext
  match a with
  | ⟨0, _⟩ => show 64 * g + 1 * (x 0).val = (64 * g + (x 0).val) % 2048; omega
  | ⟨1, _⟩ => show 0 + 1 * (x 1).val = (x 1).val; omega

theorem rect3_emb (o : Fin 3 → ℕ) (h : ∀ a, o a + S1x64x2048.size a ≤ S1x2048x2048.size a) {g : ℕ} (hg : g < 32) (e : o = ![0, 64 * g, 0])
    (x : S64x2048.Idx) (hn : S64x2048.numel = S1x64x2048.numel) :
    ((Rect.unit (s := S1x2048x2048) o S1x64x2048.size h).emb (Shape.reshapeEquiv hn x) : S1x2048x2048.Idx) = ix3 0 (rowOf g (x 0)) (x 1) := by
  have h0 : (x 0).val < 64 := (x 0).isLt
  have hx : Shape.reshapeEquiv hn x = (ix3 ⟨0, by decide⟩ (x 0) (x 1) : S1x64x2048.Idx) := by
    rw [show x = ix2 (x 0) (x 1) from eq_ix2 x]; exact reshapeEquiv_ix2_1ab _ _ _
  rw [hx]
  subst e
  funext a
  apply Fin.ext
  match a with
  | ⟨0, _⟩ => rfl
  | ⟨1, _⟩ => show 64 * g + 1 * (x 0).val = (64 * g + (x 0).val) % 2048; omega
  | ⟨2, _⟩ => show 0 + 1 * (x 1).val = (x 1).val; omega

theorem slot_emb (j : ℕ) (y : S1x64x2048.Idx) :
    ((slotR j).emb y : S2x64x2048.Idx) = ix3 ⟨j % 2, Nat.mod_lt _ (by decide)⟩ (y 1) (y 2) := by
  funext a
  apply Fin.ext
  match a with
  | ⟨0, _⟩ =>
    have h0 : (y 0).val < 1 := (y 0).isLt
    show j % 2 + 1 * (y 0).val = j % 2; omega
  | ⟨1, _⟩ => show 0 + 1 * (y 1).val = (y 1).val; omega
  | ⟨2, _⟩ => show 0 + 1 * (y 2).val = (y 2).val; omega

theorem slotS_emb (j : ℕ) (x : S64x2048.Idx) (hn : S64x2048.numel = S1x64x2048.numel) :
    ((slotR j).emb (Shape.reshapeEquiv hn x) : S2x64x2048.Idx) = ix3 ⟨j % 2, Nat.mod_lt _ (by decide)⟩ (x 0) (x 1) := by
  have hx : Shape.reshapeEquiv hn x = (ix3 ⟨0, by decide⟩ (x 0) (x 1) : S1x64x2048.Idx) := by
    rw [show x = ix2 (x 0) (x 1) from eq_ix2 x]; exact reshapeEquiv_ix2_1ab _ _ _
  rw [hx, slot_emb]
  rfl

theorem sbufR_emb (r : Fin 8) (x : S64x2048.Idx) :
    ((Rect.unit (s := S512x2048) ![64 * r.val, 0] S64x2048.size (sbuf_inb r)).emb x : S512x2048.Idx)
      = ix2 ⟨(64 * r.val + (x 0).val) % 512, Nat.mod_lt _ (by decide)⟩ (x 1) := by
  have h0 : (x 0).val < 64 := (x 0).isLt
  have := r.isLt
  funext a
  apply Fin.ext
  match a with
  | ⟨0, _⟩ => show 64 * r.val + 1 * (x 0).val = (64 * r.val + (x 0).val) % 512; omega
  | ⟨1, _⟩ => show 0 + 1 * (x 1).val = (x 1).val; omega

section Views
variable (d : Dev nD) {t : ℕ} (ht : t < 32) (x : S64x2048.Idx)
include ht
theorem peerC_emb : ((peerC d t).view.emb x : S2048x2048.Idx) = ix2 (rowOf (ord d t) (x 0)) (x 1) :=
  rect2_emb _ (row d t).h2 (ordlt d ht) (row2 d ht) x
theorem resC_emb : ((resC d t).view.emb x : S2048x2048.Idx) = ix2 (rowOf (ord d t) (x 0)) (x 1) :=
  rect2_emb _ (row d t).h2 (ordlt d ht) (row2 d ht) x
theorem outC_emb : ((outC d t).view.emb x : S2048x2048.Idx) = ix2 (rowOf (ord d t) (x 0)) (x 1) :=
  rect2_emb _ (row d t).h2 (ordlt d ht) (row2 d ht) x
theorem rowR_emb : ((rowR d t).emb x : S2048x2048.Idx) = ix2 (rowOf (ord d t) (x 0)) (x 1) :=
  rect2_emb _ (row d t).hL (ordlt d ht) (rowL d ht) x
theorem partC_emb : ((partC d t).view.emb x : S1x2048x2048.Idx) = ix3 0 (rowOf (ord d t) (x 0)) (x 1) :=
  rect3_emb _ (row d t).h3 (ordlt d ht) (row3 d ht) x _
end Views

/-! ## The views' element sets -/

theorem map_rows {e : S64x2048.Idx ↪ S2048x2048.Idx} {g : ℕ} (hg : g < 32) (he : ∀ x, e x = ix2 (rowOf g (x 0)) (x 1)) :
    Finset.univ.map e = rset g := by
  ext p
  rw [mem_rset, Finset.mem_map]
  constructor
  · rintro ⟨x, -, rfl⟩
    have h0 : (x 0).val < 64 := (x 0).isLt
    rw [he]
    show (64 * g + (x 0).val) % 2048 / 64 = g
    omega
  · intro hp
    refine ⟨ix2 ⟨(p 0).val % 64, Nat.mod_lt _ (by decide)⟩ (p 1), Finset.mem_univ _, ?_⟩
    have hlt : (p 0).val < 2048 := (p 0).isLt
    rw [he]
    funext a
    apply Fin.ext
    match a with
    | ⟨0, _⟩ => show (64 * g + (p 0).val % 64) % 2048 = (p 0).val; omega
    | ⟨1, _⟩ => rfl

theorem map_rows3 {e : S64x2048.Idx ↪ S1x2048x2048.Idx} {g : ℕ} (hg : g < 32) (he : ∀ x, e x = ix3 0 (rowOf g (x 0)) (x 1)) :
    Finset.univ.map e = pset g := by
  ext p
  rw [mem_pset, Finset.mem_map]
  constructor
  · rintro ⟨x, -, rfl⟩
    have h0 : (x 0).val < 64 := (x 0).isLt
    rw [he]
    show (64 * g + (x 0).val) % 2048 / 64 = g
    omega
  · intro hp
    refine ⟨ix2 ⟨(p 1).val % 64, Nat.mod_lt _ (by decide)⟩ (p 2), Finset.mem_univ _, ?_⟩
    have hlt : (p 1).val < 2048 := (p 1).isLt
    have h0 : (p 0).val < 1 := (p 0).isLt
    rw [he]
    funext a
    apply Fin.ext
    match a with
    | ⟨0, _⟩ => show 0 = (p 0).val; omega
    | ⟨1, _⟩ => show (64 * g + (p 1).val % 64) % 2048 = (p 1).val; omega
    | ⟨2, _⟩ => rfl

theorem map_slot {e : S64x2048.Idx ↪ S2x64x2048.Idx} {j : ℕ}
    (he : ∀ x, e x = ix3 ⟨j % 2, Nat.mod_lt _ (by decide)⟩ (x 0) (x 1)) : Finset.univ.map e = bset (j % 2) := by
  ext p
  rw [mem_bset, Finset.mem_map]
  constructor
  · rintro ⟨x, -, rfl⟩
    rw [he]
  · intro hp
    refine ⟨ix2 (p 1) (p 2), Finset.mem_univ _, ?_⟩
    rw [he]
    funext a
    apply Fin.ext
    match a with
    | ⟨0, _⟩ => exact hp.symm
    | ⟨1, _⟩ => rfl
    | ⟨2, _⟩ => rfl

theorem map_sbuf {e : S64x2048.Idx ↪ S512x2048.Idx} {r : Fin 8}
    (he : ∀ x, e x = ix2 ⟨(64 * r.val + (x 0).val) % 512, Nat.mod_lt _ (by decide)⟩ (x 1)) : Finset.univ.map e = qset r.val := by
  have hr := r.isLt
  ext p
  rw [mem_qset, Finset.mem_map]
  constructor
  · rintro ⟨x, -, rfl⟩
    have h0 : (x 0).val < 64 := (x 0).isLt
    rw [he]
    show (64 * r.val + (x 0).val) % 512 / 64 = r.val
    omega
  · intro hp
    refine ⟨ix2 ⟨(p 0).val % 64, Nat.mod_lt _ (by decide)⟩ (p 1), Finset.mem_univ _, ?_⟩
    have hlt : (p 0).val < 512 := (p 0).isLt
    rw [he]
    funext a
    apply Fin.ext
    match a with
    | ⟨0, _⟩ => show (64 * r.val + (p 0).val % 64) % 512 = (p 0).val; omega
    | ⟨1, _⟩ => rfl

section Sets
variable (d : Dev nD) {t : ℕ} (ht : t < 32)
include ht
theorem peerC_set : (peerC d t).view.set = rset (ord d t) := map_rows (ordlt d ht) (peerC_emb d ht)
theorem resC_set : (resC d t).view.set = rset (ord d t) := map_rows (ordlt d ht) (resC_emb d ht)
theorem outC_set : (outC d t).view.set = rset (ord d t) := map_rows (ordlt d ht) (outC_emb d ht)
theorem rowR_set : (peerM.view.setOn (rowR d t).toLoadRect.set) = rset (ord d t) := by
  rw [← map_rows (e := (rowR d t).emb) (ordlt d ht) (rowR_emb d ht), Rect.map_emb_univ]
  exact Finset.map_refl
theorem partC_set : (partC d t).view.set = pset (ord d t) := map_rows3 (ordlt d ht) (partC_emb d ht)
end Sets
theorem sbufC_set (r : Fin 8) : (sbufC r).view.set = qset r.val := map_sbuf (sbufR_emb r)
theorem pbufS_set (j : ℕ) : (slotM pbufM j).view.set = bset (j % 2) := map_slot fun x => slotS_emb j x _
theorem rbufS_set (j : ℕ) : (slotM rbufM j).view.set = bset (j % 2) := map_slot fun x => slotS_emb j x _
theorem obufS_set (j : ℕ) : (slotM obufM j).view.set = bset (j % 2) := map_slot fun x => slotS_emb j x _

end Cert.AllReduce

end
-- ==== Proof.Schedule.lean ====
/-
The contents every buffer ends with, and what each semaphore hands over.

A device's landing buffer ends up holding the other half's partial sums of all 2048 rows. Each of the 65 counted
semaphores of a device (its barrier, thirty-two send and thirty-two receive semaphores) has one round: the barrier's
three units hand over the rows of the landing buffers the device may write, a receive semaphore hands over a chunk of
the device's own landing buffer holding the sums, a send semaphore gives the source of the copy back.
-/
module

public import proofs.«01_k».proof.Proof.Rows
public import Idealize.ShloMosaic.Lib.Transfers
public import Idealize.ShloMosaic.Lib.Pipeline.Launch

@[expose] public section

noncomputable section

namespace Cert.AllReduce

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## Ghost state -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- A device's arguments: its block of the partial sums, the residual, gamma. -/
def argP (d : Dev nD) : S1x2048x2048.Idx → Elt F .f32 := m ((d : Thread nD τ).loc main_arg0)
def argR (d : Dev nD) : S2048x2048.Idx → Elt F .f32 := m ((d : Thread nD τ).loc main_arg1)
def argG (d : Dev nD) : S1x2048.Idx → Elt F .f32 := m ((d : Thread nD τ).loc main_arg2)

/-- The device whose partial sums of chunk `g` reach device `d`: the chunk's quarter in x and z, the other half in y. -/
def srcDev (d : Dev nD) (g : ℕ) : Dev nD := ⟨(4 * (g / 16) + 2 * (1 - d.val / 2 % 2) + g / 8 % 2) % 8, Nat.mod_lt _ (by decide)⟩

theorem srcDev_x : ∀ (d : Dev nD) (g : Fin 32), srcDev (px d) g = srcDev d g := by decide +kernel
theorem srcDev_z : ∀ (d : Dev nD) (g : Fin 32), srcDev (pz d) g = srcDev d g := by decide +kernel
theorem srcDev_y : ∀ (d : Dev nD) (t : Fin 8), srcDev (py d) (ord d t) = d := by decide +kernel

/-- What the landing buffer ends with. -/
def peerFull (d : Dev nD) : S2048x2048.Idx → Elt F .f32 := fun p => argP m (srcDev d ((p 0).val / 64)) (ix3 0 (p 0) (p 1))

/-- The staged quarter: the own quarter's eight chunks. -/
def sbufG (d : Dev nD) : S512x2048.Idx → Elt F .f32 := fun p =>
  argP m d (ix3 0 (rowOf (ord d ((p 0).val / 64)) ⟨(p 0).val % 64, Nat.mod_lt _ (by decide)⟩) (p 1))

/-- Slot contents at step `t`: own partial sums, residual. -/
def pbufG (d : Dev nD) (t : ℕ) : S2x64x2048.Idx → Elt F .f32 := fun p => argP m d (ix3 0 (rowOf (ord d t) (p 1)) (p 2))
def rbufG (d : Dev nD) (t : ℕ) : S2x64x2048.Idx → Elt F .f32 := fun p => argR m d (ix2 (rowOf (ord d t) (p 1)) (p 2))

/-- Chunk `g` of the result. -/
def blk (d : Dev nD) (g : ℕ) : S1x64x2048.Idx → Elt F .f32 :=
  pay (fun y => argP m d (ix3 0 (rowOf g (y 1)) (y 2))) (fun x => peerFull m d (ix2 (rowOf g (x 0)) (x 1)))
    (fun y => argR m d (ix2 (rowOf g (y 1)) (y 2))) (argG m d)
def obufG (d : Dev nD) (t : ℕ) : S2x64x2048.Idx → Elt F .f32 := fun p => blk m d (ord d t) (ix3 0 (p 1) (p 2))
/-- The result. -/
def outFull (d : Dev nD) : S2048x2048.Idx → Elt F .f32 := fun p =>
  blk m d ((p 0).val / 64) (ix3 0 ⟨(p 0).val % 64, Nat.mod_lt _ (by decide)⟩ (p 1))

theorem peerFull_dest (d : Dev nD) {j : ℕ} (hj : j < 32) (h8 : 8 ≤ j) : peerFull m (dest d j) = peerFull m d := by
  have hd : dest d j = px d ∨ dest d j = pz d := by
    have h : ∀ j : Fin 32, 8 ≤ j.val → dir j = 1 ∨ dir j = 2 := by decide +kernel
    rcases h ⟨j, hj⟩ h8 with h | h
    · exact Or.inl (by show peer (dir j) d = _; rw [h]; rfl)
    · exact Or.inr (by show peer (dir j) d = _; rw [h]; rfl)
  funext p
  have hp : (p 0).val < 2048 := (p 0).isLt
  unfold peerFull
  rcases hd with h | h <;> rw [h]
  · rw [srcDev_x d ⟨(p 0).val / 64, by omega⟩]
  · rw [srcDev_z d ⟨(p 0).val / 64, by omega⟩]

/-! ## Regions held -/

def peerAt (d : Dev nD) (g : ℕ) (q : PosShare TreeShare) (f : S2048x2048.Idx → Elt F .f32) : sProp 𝕄 :=
  ((d : Thread nD τ).loc cc0_scratch0) ↦[rset g]{q} f
def sbufAt (d : Dev nD) (r : ℕ) (f : S512x2048.Idx → Elt F .f32) : sProp 𝕄 :=
  ((d : Thread nD τ).loc cc0_scratch1) ↦[qset r]{fullShare} f
def partAt (d : Dev nD) (t : ℕ) (q : PosShare TreeShare) : sProp 𝕄 :=
  ((d : Thread nD τ).loc main_arg0) ↦[pset (ord d t)]{q} (argP m d)
def resAt (d : Dev nD) (t : ℕ) : sProp 𝕄 :=
  ((d : Thread nD τ).loc main_arg1) ↦[rset (ord d t)]{fullShare} (argR m d)
def outAt (d : Dev nD) (t : ℕ) (f : S2048x2048.Idx → Elt F .f32) : sProp 𝕄 :=
  ((d : Thread nD τ).loc main_v1) ↦[rset (ord d t)]{fullShare} f
def pbufAt (d : Dev nD) (t : ℕ) (f : S2x64x2048.Idx → Elt F .f32) : sProp 𝕄 :=
  ((d : Thread nD τ).loc cc0_scratch2) ↦[bset (t % 2)]{fullShare} f
def rbufAt (d : Dev nD) (t : ℕ) (f : S2x64x2048.Idx → Elt F .f32) : sProp 𝕄 :=
  ((d : Thread nD τ).loc cc0_scratch3) ↦[bset (t % 2)]{fullShare} f
def obufAt (d : Dev nD) (t : ℕ) (f : S2x64x2048.Idx → Elt F .f32) : sProp 𝕄 :=
  ((d : Thread nD τ).loc cc0_scratch4) ↦[bset (t % 2)]{fullShare} f

instance peerAt_storable (d : Dev nD) (g q) (f) : BI.Storable (upEmb : UEmb _ 𝕄) (peerAt (F := F) d g q f) := by unfold peerAt; infer_instance
instance sbufAt_storable (d : Dev nD) (r) (f) : BI.Storable (upEmb : UEmb _ 𝕄) (sbufAt (F := F) d r f) := by unfold sbufAt; infer_instance

/-! ## Cells -/

abbrev barCell (d : Dev nD) : GSem nD τ sig := ((d : Thread nD τ), .reg barS)
abbrev dcell (d : Dev nD) (n : ℕ) : GSem nD τ sig := ((d : Thread nD τ), .dma (dS n))
/-- The send cell of copy `j`; the receive cell of number `j`; the cell copy `j` of device `d` lands on. -/
abbrev scell (d : Dev nD) (j : ℕ) : GSem nD τ sig := dcell d (sNum j)
abbrev rcell (d : Dev nD) (j : ℕ) : GSem nD τ sig := dcell d (rNum j)

abbrev N : ℕ := (peerC 0 0).view.dmaCredit
theorem N_pos : 0 < N := View.dmaCredit_pos _ (by decide)

/-- The number of a DMA semaphore in the pool. -/
def semNo : SemLoc sig → ℕ
  | .dma q => q.val
  | _ => 0

theorem semNo_dS {n : ℕ} (h : n < 79) : semNo (.dma (dS n)) = n := Nat.mod_eq_of_lt h

/-- Whether semaphore number `n` is a send semaphore, and the copy it belongs to. -/
def isSend (n : ℕ) : Bool := (n < 9) || (17 ≤ n && n < 25) || (33 ≤ n && n < 41) || (49 ≤ n && n < 53) || (57 ≤ n && n < 61)
def copyNo (n : ℕ) : ℕ :=
  if n < 9 then n - 1 else if n < 17 then n - 9 else if n < 25 then 8 + 2 * (n - 17) else if n < 33 then 8 + 2 * (n - 25)
  else if n < 41 then 9 + 2 * (n - 33) else if n < 49 then 9 + 2 * (n - 41) else if n < 53 then 24 + (n - 49) else if n < 57 then 24 + (n - 53)
  else if n < 61 then 28 + (n - 57) else 28 + (n - 61)
theorem send_no : ∀ j : Fin 32, isSend (sNum j) = true ∧ copyNo (sNum j) = j := by decide +kernel
theorem recv_no : ∀ j : Fin 32, isSend (rNum j) = false ∧ copyNo (rNum j) = j := by decide +kernel

/-! ## Payloads -/

/-- The share of the source a copy is lent: all of the staged chunk; of a landed chunk the half not kept for the loads,
    halved again where two copies read it. -/
def qs (j : ℕ) : PosShare TreeShare :=
  if j < 24 then (if j % 2 = 0 then fullShare.right.left else fullShare.right.right) else fullShare.right

/-- What the neighbour in direction `a` hands a device at the barrier: the rows of its landing buffer the device writes. -/
def barPay (d : Dev nD) (a : Fin 3) : sProp 𝕄 :=
  bigSep ((Finset.range 32).filter fun j => dir j = a) fun j => iprop(∃ f, peerAt (peer a d) (ord (peer a d) j) fullShare f)
def landPay (d : Dev nD) (j : ℕ) : sProp 𝕄 := peerAt d (ord d j) fullShare (peerFull m d)
def backPay (d : Dev nD) (j : ℕ) : sProp 𝕄 :=
  if j < 8 then sbufAt d j (sbufG m d) else peerAt d (ord d (srcT j)) (qs j) (peerFull m d)

instance barPay_storable (d : Dev nD) (a) : BI.Storable (upEmb : UEmb _ 𝕄) (barPay (F := F) d a) := by unfold barPay; infer_instance
instance landPay_storable (d : Dev nD) (j) : BI.Storable (upEmb : UEmb _ 𝕄) (landPay (F := F) m d j) := by unfold landPay; infer_instance
instance backPay_storable (d : Dev nD) (j) : BI.Storable (upEmb : UEmb _ 𝕄) (backPay (F := F) m d j) := by
  unfold backPay; split <;> infer_instance

abbrev IsBar (g : GSem nD τ sig) : Prop := g.1.2 = .tc ∧ g.2 = .reg barS
abbrev IsXfer (g : GSem nD τ sig) : Prop := g.1.2 = .tc ∧ 1 ≤ semNo g.2 ∧ semNo g.2 < 65

/-- One round, round 0. -/
def rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ a :=
    if g.2 = .reg barS then barPay g.1.1 a
    else if isSend (semNo g.2) then backPay m g.1.1 (copyNo (semNo g.2)) else landPay m g.1.1 (copyNo (semNo g.2))
  amount_pos g _ _ _ := by
    by_cases h : g.2 = .reg barS
    · rw [if_pos h]; exact Nat.one_pos
    · rw [if_neg h]; exact N_pos

instance rd_payload_storable (g : GSem nD τ sig) (r : ℕ) (d : Fin 3) :
    BI.Storable (upEmb : UEmb _ 𝕄) ((rd (F := F) m).payload g r d) := by
  show BI.Storable upEmb (if g.2 = .reg barS then barPay g.1.1 d
    else if isSend (semNo g.2) then backPay m g.1.1 (copyNo (semNo g.2)) else landPay m g.1.1 (copyNo (semNo g.2)))
  (repeat' split) <;> infer_instance

section Sched
variable (d : Dev nD)

theorem dma_ne_bar (q : DmaSem sig) : (SemLoc.dma q : SemLoc sig) ≠ .reg barS := fun h => by cases h
theorem isX {n : ℕ} (h : 1 ≤ n ∧ n < 65) : IsXfer (dcell d n) :=
  ⟨rfl, by rw [semNo_dS (by omega)]; exact h.1, by rw [semNo_dS (by omega)]; exact h.2⟩

theorem duties_bar : (rd (F := F) m).duties (barCell d) 0 = Finset.univ := by dsimp only [rd]; exact if_pos ⟨rfl, rfl, rfl⟩
theorem duties_x {n : ℕ} (h : 1 ≤ n ∧ n < 65) : (rd (F := F) m).duties (dcell d n) 0 = {0} := by
  dsimp only [rd]; rw [if_neg (fun h => dma_ne_bar _ h.2.2)]; exact if_pos ⟨rfl, isX d h⟩
theorem duties_later (g : GSem nD τ sig) : ∀ r, 1 ≤ r → (rd (F := F) m).duties g r = ∅ :=
  fun r hr => by dsimp only [rd]; rw [if_neg fun h => by omega, if_neg fun h => by omega]
theorem amount_bar (a : Fin 3) : (rd (F := F) m).amount (barCell d) 0 a = 1 := by dsimp only [rd]; exact if_pos rfl
theorem amount_x (n : ℕ) (a : Fin 3) : (rd (F := F) m).amount (dcell d n) 0 a = N := by dsimp only [rd]; exact if_neg (dma_ne_bar _)
theorem expect_bar : (rd (F := F) m).expect (barCell d) 0 = 3 := by
  unfold Schedule.expect Schedule.amountOf
  rw [duties_bar, Finset.sum_congr rfl fun a _ => amount_bar m d a, Finset.sum_const, Finset.card_univ, Fintype.card_fin, smul_eq_mul]
theorem expect_x {n : ℕ} (h : 1 ≤ n ∧ n < 65) : (rd (F := F) m).expect (dcell d n) 0 = N := by
  unfold Schedule.expect Schedule.amountOf; rw [duties_x m d h, Finset.sum_singleton, amount_x]
theorem payload_bar (a : Fin 3) : (rd (F := F) m).payload (barCell d) 0 a = barPay d a := by dsimp only [rd]; rw [if_pos rfl]
theorem payload_send {j : ℕ} (hj : j < 32) (a : Fin 3) : (rd (F := F) m).payload (scell d j) 0 a = backPay m d j := by
  have h := send_no ⟨j, hj⟩
  have hl := sNum_lt ⟨j, hj⟩
  dsimp only [rd]
  rw [if_neg (dma_ne_bar _), semNo_dS (by dsimp only at hl; omega), if_pos h.1, h.2]
theorem payload_recv {j : ℕ} (hj : j < 32) (a : Fin 3) : (rd (F := F) m).payload (rcell d j) 0 a = landPay m d j := by
  have h := recv_no ⟨j, hj⟩
  have hl := rNum_lt ⟨j, hj⟩
  dsimp only [rd]
  rw [if_neg (dma_ne_bar _), semNo_dS (by dsimp only at hl; omega), if_neg (by rw [h.1]; decide), h.2]

/-- The whole of a round's payloads. -/
theorem rest_bar : bigSep ((rd (F := F) m).duties (barCell d) 0 \ ∅) (fun a => (rd (F := F) m).payload (barCell d) 0 a)
    = bigSep Finset.univ (barPay (F := F) d) := by
  rw [Finset.sdiff_empty, duties_bar]; exact bigSep_congr fun a _ => payload_bar m d a
theorem rest_send {j : ℕ} (hj : j < 32) : bigSep ((rd (F := F) m).duties (scell d j) 0 \ ∅) (fun a => (rd (F := F) m).payload (scell d j) 0 a)
    = backPay m d j := by
  rw [Finset.sdiff_empty, duties_x m d (sNum_lt ⟨j, hj⟩), bigSep_singleton, payload_send m d hj]
theorem rest_recv {j : ℕ} (hj : j < 32) : bigSep ((rd (F := F) m).duties (rcell d j) 0 \ ∅) (fun a => (rd (F := F) m).payload (rcell d j) 0 a)
    = landPay m d j := by
  rw [Finset.sdiff_empty, duties_x m d (rNum_lt ⟨j, hj⟩), bigSep_singleton, payload_recv m d hj]

end Sched

/-- A separating conjunction over a disjoint union, part by part. -/
theorem bigSep_parts {I J : Type} [DecidableEq I] [DecidableEq J] (s : Finset J) (t : J → Finset I)
    (h : ∀ a ∈ s, ∀ b ∈ s, a ≠ b → Disjoint (t a) (t b)) (Φ : I → sProp 𝕄) :
    bigSep (s.biUnion t) Φ = bigSep s fun a => bigSep (t a) Φ := by
  induction s using Finset.induction_on with
  | empty => rfl
  | insert a s ha ih =>
    rw [Finset.biUnion_insert, bigSep_insert ha, bigSep_union, ih fun x hx y hy => h x (Finset.mem_insert_of_mem hx) y (Finset.mem_insert_of_mem hy)]
    rw [Finset.disjoint_biUnion_right]
    exact fun b hb => h a (Finset.mem_insert_self _ _) b (Finset.mem_insert_of_mem hb) fun e => ha (e ▸ hb)

/-- At the barrier a device gets, for each of its copies, the rows it writes. -/
theorem barPay_all (d : Dev nD) : bigSep Finset.univ (barPay (F := F) d)
    = bigSep (Finset.range 32) fun j => iprop(∃ f, peerAt (dest d j) (ord (dest d j) j) fullShare f) := by
  unfold barPay
  have h : (Finset.range 32) = Finset.univ.biUnion (fun a : Fin 3 => (Finset.range 32).filter fun j => dir j = a) := by ext j; simp
  conv_rhs => rw [h]
  rw [bigSep_parts]
  · refine bigSep_congr fun a _ => bigSep_congr fun j hj => ?_
    rw [← (Finset.mem_filter.1 hj).2]; rfl
  · intro a _ b _ hab
    exact Finset.disjoint_left.mpr fun j hj hj' => hab ((Finset.mem_filter.1 hj).2.symm.trans (Finset.mem_filter.1 hj').2)

/-! ## What a device owes; the levels -/

/-- What device `d` still owes when it has started `n` of its copies. -/
def owe (d : Dev nD) (n : ℕ) : CellTallies nD τ sig Unit := ∑ j ∈ Finset.Ico n 32, tallyAt (rcell (dest d j) j) () N
theorem owe_step (d : Dev nD) {n : ℕ} (h : n < 32) : owe d n = owe d (n + 1) + tallyAt (rcell (dest d n) n) () N := by
  unfold owe
  rw [show Finset.Ico n 32 = insert n (Finset.Ico (n + 1) 32) by ext x; simp only [Finset.mem_Ico, Finset.mem_insert]; omega,
    Finset.sum_insert (by rw [Finset.mem_Ico]; omega), add_comm]
theorem owe_end (d : Dev nD) {n : ℕ} (h : 32 ≤ n) : owe d n = 0 := by
  unfold owe; rw [Finset.Ico_eq_empty (by omega), Finset.sum_empty]
def O₂ (d : Dev nD) : CellTallies nD τ sig Unit := owe d 0 + tallyAt (barCell (pz d)) () 1
def O₁ (d : Dev nD) : CellTallies nD τ sig Unit := O₂ d + tallyAt (barCell (px d)) () 1
def O₀ (d : Dev nD) : CellTallies nD τ sig Unit := O₁ d + tallyAt (barCell (py d)) () 1

def L (g : GSem nD τ sig) : Finset Unit := if g.1.2 = .tc then {()} else ∅
/-- How far along the receive cells are: those of the exchange, of the first forwarding, of the second. -/
def rlv (j : ℕ) : ℕ := if j < 8 then 2 else if j < 24 then 3 else 4
def lv (g : GSem nD τ sig) (_ : Unit) : ℕ :=
  if g.2 = .reg barS then 1 else if 1 ≤ semNo g.2 ∧ semNo g.2 < 65 ∧ isSend (semNo g.2) = false then rlv (copyNo (semNo g.2)) else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) {j : ℕ} (hj : j < 32) (u : Unit) : lv (rcell c j) u = rlv j := by
  have h := recv_no ⟨j, hj⟩
  have hl := rNum_lt ⟨j, hj⟩
  unfold lv
  dsimp only at hl h ⊢
  rw [if_neg (dma_ne_bar _), semNo_dS (by omega), if_pos ⟨hl.1, hl.2, h.1⟩, h.2]

theorem owe_pos {d : Dev nD} {n : ℕ} {g : GSem nD τ sig} {u : Unit} (h : 0 < owe d n g u) : ∃ j, n ≤ j ∧ j < 32 ∧ g = rcell (dest d j) j := by
  unfold owe at h
  rw [Finset.sum_apply, Finsupp.finset_sum_apply] at h
  obtain ⟨j, hj, hp⟩ := Finset.exists_ne_zero_of_sum_ne_zero h.ne'
  have hj := Finset.mem_Ico.1 hj
  refine ⟨j, hj.1, hj.2, ?_⟩
  by_contra hn
  exact hp (by rw [tallyAt_apply, if_neg (fun h' => hn h'.1)])

/-- A wait on a cell of level `l` while only copies of higher level are owed. -/
theorem mayWait_owe (d : Dev nD) (sm : SemLoc sig) (n l : ℕ) (hl : lv ((d : Thread nD τ), sm) () ≤ l) (hn : ∀ j, n ≤ j → j < 32 → l < rlv j) :
    (levAts L lv : sProp 𝕄) ⊢ MayWait (d : Thread nD τ) sm () (owe d n) :=
  MayOwe.of_cut (L := L) (lev := lv) l (fun p hp => by rw [Finset.mem_singleton.mp hp, L_tc]; exact Finset.mem_singleton_self _)
    (fun g u hg => by obtain ⟨j, -, -, rfl⟩ := owe_pos hg; rw [L_tc]; exact Finset.mem_singleton_self _)
    (fun p hp => by rw [Finset.mem_singleton.mp hp]; exact hl)
    (fun g u hg => by obtain ⟨j, h1, h2, rfl⟩ := owe_pos hg; rw [lv_recv _ h2]; exact hn j h1 h2)

theorem rlv_pos (j : ℕ) : 1 < rlv j := by unfold rlv; split_ifs <;> decide

theorem O₀_pos {d : Dev nD} {g : GSem nD τ sig} {u : Unit} (h : 0 < O₀ d g u) :
    (∃ j, j < 32 ∧ g = rcell (dest d j) j) ∨ (∃ c, g = barCell c) := by
  unfold O₀ O₁ O₂ at h
  rw [Pi.add_apply, Finsupp.add_apply, Pi.add_apply, Finsupp.add_apply, Pi.add_apply, Finsupp.add_apply, tallyAt_apply, tallyAt_apply, tallyAt_apply] at h
  by_cases ho : 0 < owe d 0 g u
  · obtain ⟨j, -, h2, h3⟩ := owe_pos ho; exact Or.inl ⟨j, h2, h3⟩
  · refine Or.inr ?_
    by_contra hn
    rw [not_exists] at hn
    rw [if_neg (fun h' => hn _ h'.1), if_neg (fun h' => hn _ h'.1), if_neg (fun h' => hn _ h'.1)] at h
    simp only [Nat.add_zero] at h
    exact ho h

/-- A wait on a level-0 cell at launch, or owing nothing. -/
theorem mayWait_launch (d : Dev nD) (sm : SemLoc sig) (h0 : lv ((d : Thread nD τ), sm) () = 0) (O : CellTallies nD τ sig Unit) (hO : O = O₀ d ∨ O = 0) :
    (levAts L lv : sProp 𝕄) ⊢ MayWait (d : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, h2, rfl⟩ | ⟨c, rfl⟩ <;> exact Finset.mem_singleton_self _)
      (fun p hp => by rw [Finset.mem_singleton.mp hp]; exact h0.le)
      (fun g u hg => by
        rcases O₀_pos hg with ⟨j, h2, rfl⟩ | ⟨c, rfl⟩
        · rw [lv_recv _ h2]; have := rlv_pos j; omega
        · dsimp only [lv]; rw [if_pos rfl]; decide)
  · rw [MayWait_zero]; iintro -; iempintro

end Cert.AllReduce

end
-- ==== Proof.Rules.lean ====
/-
One rule per kind of statement of the body, in terms of the regions and cells of the schedule.
-/
module

public import proofs.«01_k».proof.Proof.Schedule

@[expose] public section

noncomputable section

namespace Cert.AllReduce

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## Amounts: every copy of the kernel is of 64×2048 elements -/

theorem credit_peer (d : Dev nD) (t : ℕ) : (peerC d t).view.dmaCredit = N := rfl
theorem credit_sbuf (r : Fin 8) : (sbufC r).view.dmaCredit = N := rfl
theorem credit_out (d : Dev nD) (t : ℕ) : (outC d t).view.dmaCredit = N := rfl
theorem credit_slot (t : ℕ) : (slotM pbufM t).view.dmaCredit = N ∧ (slotM rbufM t).view.dmaCredit = N ∧ (slotM obufM t).view.dmaCredit = N := ⟨rfl, rfl, rfl⟩

/-! ## The cells' records -/

/-- The counted semaphores of a device: number 0 the barrier, 1 to 64 of the pool. -/
def csem (k : Fin 65) : SemLoc sig := if k.val = 0 then .reg barS else .dma (dS k.val)
def kcell (ck : Dev nD × Fin 65) : GSem nD τ sig := ((ck.1 : Thread nD τ), csem ck.2)

theorem kcell_bar (d : Dev nD) : kcell (d, 0) = barCell d := rfl
theorem kcell_dma (d : Dev nD) {n : ℕ} (h : 1 ≤ n ∧ n < 65) : kcell (d, ⟨n, h.2⟩) = dcell d n := by
  show ((d : Thread nD τ), csem ⟨n, h.2⟩) = _
  unfold csem
  rw [if_neg (by dsimp only; omega)]

/-- Every cell's invariant, under the names `K`, and that its round 0 is reached. -/
def records (K : Dev nD × Fin 65 → ℕ) : sProp 𝕄 :=
  iprop((bigSep Finset.univ fun ck : Dev nD × Fin 65 => cellInv ER (rd m) (K ck) (kcell ck))
    ∗ bigSep Finset.univ fun ck : Dev nD × Fin 65 => reached ER (kcell ck) 0)

instance records_persistent (K : Dev nD × Fin 65 → ℕ) : BI.Persistent (records m K) := by unfold records; infer_instance

variable (K : Dev nD × Fin 65 → ℕ)

theorem inv_at (ck : Dev nD × Fin 65) :
    (bigSep Finset.univ fun ck : Dev nD × Fin 65 => (cellInv ER (rd m) (K ck) (kcell ck) : sProp 𝕄)) ⊢ cellInv ER (rd m) (K ck) (kcell ck) :=
  bigSep_elim (Finset.mem_univ ck)
theorem reached_at (ck : Dev nD × Fin 65) :
    (bigSep Finset.univ fun ck : Dev nD × Fin 65 => (reached ER (kcell ck) 0 : sProp 𝕄)) ⊢ reached ER (kcell ck) 0 :=
  bigSep_elim (Finset.mem_univ ck)
theorem rec_at (ck : Dev nD × Fin 65) : records m K ⊢ iprop(cellInv ER (rd m) (K ck) (kcell ck) ∗ reached ER (kcell ck) 0) := by
  unfold records
  iintro ⟨H1, H2⟩
  isplitl [H1]
  · iapply (inv_at m K ck); iexact H1
  · iapply (reached_at (F := F) ck); iexact H2
theorem rec_bar (d : Dev nD) : records m K ⊢ iprop(cellInv ER (rd m) (K (d, 0)) (barCell d) ∗ reached ER (barCell d) 0) := rec_at m K (d, 0)
theorem rec_dma (d : Dev nD) {n : ℕ} (h : 1 ≤ n ∧ n < 65) :
    records m K ⊢ iprop(cellInv ER (rd m) (K (d, ⟨n, h.2⟩)) (dcell d n) ∗ reached ER (dcell d n) 0) := by
  rw [← kcell_dma d h]; exact rec_at m K _

/-! ## The rules -/

abbrev 𝒱₀ : Variants := Variants.none

/-- Device `d` runs `k` to a state satisfying `Q`. -/
abbrev runs (d : Dev nD) (k : PR F) (Q : PUnit → sProp 𝕄) : sProp 𝕄 := wp frame (wpE (defs₀ (F := F)) 𝒱₀ (d : Thread nD τ) none) Set.univ k Q

/-- Device `d` has started `n` of its copies and owes the rest. -/
def Owes (d : Dev nD) (n : ℕ) : sProp 𝕄 := iprop(∃ W, owes (d : Thread nD τ) (owe d n) W)

theorem lv_zero (d : Dev nD) {s : ℕ} (h79 : s < 79) (h : s = 0 ∨ 65 ≤ s ∨ isSend s = true) : lv (dcell d s) () = 0 := by
  unfold lv
  dsimp only
  rw [if_neg (dma_ne_bar _), semNo_dS h79, if_neg]
  rintro ⟨h1, h2, h3⟩
  rcases h with h | h | h
  · omega
  · omega
  · rw [h] at h3; cases h3

/-- What a copy writes, read back: contents `G` whose chunk there is the source's chunk. -/
theorem written {sp sp' : Space} (src : Memref sig .tc sp S64x2048 .f32) (dst : Memref sig .tc sp' S64x2048 .f32)
    (fs : src.view.ty.Contents (Elt F)) (fd G : dst.view.ty.Contents (Elt F))
    (hG : ∀ x, src.view.read (Elt F) fs x = dst.view.read (Elt F) G x) :
    ∀ p ∈ dst.view.set, dst.view.write (Elt F) fd (src.view.read (Elt F) fs) Finset.univ p = G p := by
  intro p hp
  obtain ⟨x, -, rfl⟩ := Finset.mem_map.1 hp
  rw [View.write_emb_of_mem _ _ (Finset.mem_univ x), hG, View.read_apply]
  simp

section Here
variable {sp sp' : Space}

/-- A local copy started. -/
theorem runs_here (d : Dev nD) (src : Memref sig .tc sp S64x2048 .f32) (dst : Memref sig .tc sp' S64x2048 .f32) (s : ℕ)
    {h1 : src.view.WordExact} {h2 : dst.view.WordExact} {h3 : DmaTarget.Typed (nD := nD) (τ := τ) (p := .tc) sp (.dma (dS s)) (.here dst)} {k : PR F} {Q : PUnit → sProp 𝕄}
    (q : PosShare TreeShare) (fs : src.view.ty.Contents (Elt F)) (fd G : dst.view.ty.Contents (Elt F))
    (hG : ∀ x, src.view.read (Elt F) fs x = dst.view.read (Elt F) G x) (hN : dst.view.dmaCredit = N) :
    iprop((src.view.loc (d : Thread nD τ) ↦[src.view.set]{q} fs) ∗ (dst.view.loc (d : Thread nD τ) ↦[dst.view.set]{fullShare} fd) ∗ semVal (dcell d s) 0)
      ⊢ iprop((Flight EC (d : Thread nD τ) (.dma (dS s)) () N iprop((dst.view.loc (d : Thread nD τ) ↦[dst.view.set]{fullShare} G) ∗ (src.view.loc (d : Thread nD τ) ↦[src.view.set]{q} fs))
          -∗ runs d k Q) -∗ runs d (copyHere src dst s h1 h2 h3 k) Q) := by
  have h := wp_dmaLocal (defs := defs₀ (F := F)) (Q := Q) (EC (F := F)) 𝒱₀ (d : Thread nD τ) none (src := src) (via := ReadAs.same) (dst := dst) (sm := .dma (dS s)) (hsrc := h1) (hdst := h2) (hsem := h3)
    (k := fun _ => k) (q := q) (fs := fs) (fd := fd) () N (show dst.view.amount (.dma (dS s)) = N from hN) N_pos (Finset.Subset.refl _)
  have e : (dst.view.loc (d : Thread nD τ) ↦[dst.view.set]{fullShare} (dst.view.write (Elt F) fd (ReadAs.same.apply (src.view.read (Elt F) fs)) Finset.univ) : sProp 𝕄)
      = (dst.view.loc (d : Thread nD τ) ↦[dst.view.set]{fullShare} G) := pointsTo_congr (written src dst fs fd G hG)
  rw [e] at h
  exact h

/-- The wait for a local copy, while copies are owed. -/
theorem runs_await (d : Dev nD) (src : Memref sig .tc sp S64x2048 .f32) (dst : Memref sig .tc sp' S64x2048 .f32) (s : ℕ)
    {h1 : src.view.WordExact} {h2 : dst.view.WordExact} {k : PR F} {Q : PUnit → sProp 𝕄} (hN : dst.view.dmaCredit = N)
    (h79 : s < 79) (h65 : 65 ≤ s) (n : ℕ) {D : sProp 𝕄} :
    iprop(levAts L lv ∗ Flight EC (d : Thread nD τ) (.dma (dS s)) () N D ∗ Owes d n)
      ⊢ iprop(((D ∗ semVal (dcell d s) 0 ∗ Owes d n) -∗ runs d k Q) -∗ runs d (waitOn s src dst h1 h2 k) Q) := by
  unfold Owes
  iintro ⟨#Hl, HF, ⟨%W, HO⟩⟩ Hk
  iapply (wp_waitLocalO (EC (F := F)) 𝒱₀ (d : Thread nD τ) none () hN (O := owe d n) (W := W)) $$ [HF HO]
  · isplitl [HF]; · iexact HF
    isplitl [HO]; · iexact HO
    iapply (mayWait_owe d (.dma (dS s)) n 0 (lv_zero d h79 (Or.inr (Or.inl h65))).le (fun j _ _ => by have := rlv_pos j; omega)); iexact Hl
  iintro ⟨HD, Hv, HO⟩
  iapply Hk
  isplitl [HD]; · iexact HD
  isplitl [Hv]; · iexact Hv
  iexists _; iexact HO

/-- The wait on a counted cell, whose payload `P` is handed over; the cell is closed. -/
theorem runs_wait (d : Dev nD) (src : Memref sig .tc sp S64x2048 .f32) (dst : Memref sig .tc sp' S64x2048 .f32) (s : ℕ)
    {h1 : src.view.WordExact} {h2 : dst.view.WordExact} {k : PR F} {Q : PUnit → sProp 𝕄} (hN : dst.view.dmaCredit = N)
    (hs : 1 ≤ s ∧ s < 65) (n : ℕ) (hlv : ∀ j, n ≤ j → j < 32 → lv (dcell d s) () < rlv j) {P : sProp 𝕄}
    (hP : bigSep ((rd (F := F) m).duties (dcell d s) 0 \ ∅) (fun a => (rd (F := F) m).payload (dcell d s) 0 a) = P) :
    iprop(levAts L lv ∗ records m K ∗ cred (tallyAt (dcell d s) () N) ∗ atPos ER (dcell d s) 0 ∅ 0 ∗ Owes d n)
      ⊢ iprop(((P ∗ semVal (dcell d s) 0 ∗ Owes d n) -∗ runs d k Q) -∗ runs d (waitOn s src dst h1 h2 k) Q) := by
  subst hP
  unfold Owes
  iintro ⟨#Hl, #HR, Hc, Hat, ⟨%W, HO⟩⟩ Hk
  ihave ⟨#HI, -⟩ := (rec_dma m K d hs) $$ HR
  iapply (Rounds.wp_wait_rest_token 𝒱₀ ER (rd m) (d : Thread nD τ) none (κ := K (d, ⟨s, hs.2⟩))
      (wpE_waitDma2_eq 𝒱₀ (d : Thread nD τ) none Set.univ) (Set.mem_univ _) () (O := owe d n) (W := W) (R := 0) (m := 0) (T := ∅)
      (by rw [Nat.zero_add, expect_x m d hs, hN])) $$ [Hc HO Hat]
  · isplitr; · iexact HI
    isplitl [Hc]; · rw [hN]; iexact Hc
    isplitl [HO]; · iexact HO
    isplitr; · iapply (mayWait_owe d (.dma (dS s)) n (lv (dcell d s) ()) le_rfl hlv); iexact Hl
    iexact Hat
  iintro ⟨HO, Hat, -, Hpay⟩
  imod (Rounds.cell_close ER (rd m) (Set.mem_univ (K (d, ⟨s, hs.2⟩))) (fun h => h) (R := 0 + 1) (duties_later m (dcell d s))) $$ [Hat] with Hv
  · isplitr; · iexact HI
    iexact Hat
  iapply Hk
  isplitl [Hpay]; · iexact Hpay
  isplitl [Hv]; · iexact Hv
  iexists _; iexact HO
end Here

/-- The wait for number `j` received. -/
theorem runs_recv {sp sp' : Space} (d : Dev nD) (src : Memref sig .tc sp S64x2048 .f32) (dst : Memref sig .tc sp' S64x2048 .f32) (s : ℕ)
    {h1 : src.view.WordExact} {h2 : dst.view.WordExact} {k : PR F} {Q : PUnit → sProp 𝕄} (hN : dst.view.dmaCredit = N)
    {j : ℕ} (hj : j < 32) (hs : s = rNum j) (n : ℕ) (hlv : ∀ i, n ≤ i → i < 32 → rlv j < rlv i) :
    iprop(levAts L lv ∗ records m K ∗ cred (tallyAt (rcell d j) () N) ∗ atPos ER (rcell d j) 0 ∅ 0 ∗ Owes d n)
      ⊢ iprop(((landPay m d j ∗ semVal (rcell d j) 0 ∗ Owes d n) -∗ runs d k Q) -∗ runs d (waitOn s src dst h1 h2 k) Q) := by
  subst hs
  exact runs_wait m K d src dst (rNum j) hN (rNum_lt ⟨j, hj⟩) n (fun i h1 h2 => by rw [lv_recv d hj]; exact hlv i h1 h2) (rest_recv m d hj)

/-- The wait for copy `j` sent. -/
theorem runs_sent {sp sp' : Space} (d : Dev nD) (src : Memref sig .tc sp S64x2048 .f32) (dst : Memref sig .tc sp' S64x2048 .f32) (s : ℕ)
    {h1 : src.view.WordExact} {h2 : dst.view.WordExact} {k : PR F} {Q : PUnit → sProp 𝕄} (hN : dst.view.dmaCredit = N)
    {j : ℕ} (hj : j < 32) (hs : s = sNum j) (n : ℕ) :
    iprop(levAts L lv ∗ records m K ∗ cred (tallyAt (scell d j) () N) ∗ atPos ER (scell d j) 0 ∅ 0 ∗ Owes d n)
      ⊢ iprop(((backPay m d j ∗ semVal (scell d j) 0 ∗ Owes d n) -∗ runs d k Q) -∗ runs d (waitOn s src dst h1 h2 k) Q) := by
  subst hs
  have hl := sNum_lt ⟨j, hj⟩
  dsimp only at hl
  exact runs_wait m K d src dst (sNum j) hN hl n
    (fun i h1 h2 => by rw [lv_zero d (show sNum j < 79 by omega) (Or.inr (Or.inr (send_no ⟨j, hj⟩).1))]; have := rlv_pos i; omega) (rest_send m d hj)

/-- What copy `j` needs besides its source: the tokens of its two cells and the rows it writes. -/
def sendKit (d : Dev nD) (j : ℕ) : sProp 𝕄 :=
  iprop(dutyTok ER (scell d j) 0 0 ∗ dutyTok ER (rcell (dest d j) j) 0 0 ∗ ∃ f, peerAt (dest d j) (ord (dest d j) j) fullShare f)

/-- The start of copy `j`, from a source `src` held at share `q`, to the landing rows `dst`. -/
theorem runs_to (d : Dev nD) {j : ℕ} (hj : j < 32) (n : Dev nD) (hn : n = dest d j) (src dst : Memref sig .tc .vmem S64x2048 .f32) (s r : ℕ)
    (hs : s = sNum j) (hr : r = rNum j) {h1 : src.view.WordExact} {h2 : dst.view.WordExact} {h0 : dst.view.ref.isScScratch = false}
    {k : PR F} {Q : PUnit → sProp 𝕄} (q : PosShare TreeShare) (fs : src.view.ty.Contents (Elt F)) (hN : dst.view.dmaCredit = N)
    (hdst : ∀ f, (peerAt (dest d j) (ord (dest d j) j) fullShare f : sProp 𝕄) ⊢ iprop(∃ fd, dst.view.loc (dest d j : Thread nD τ) ↦[dst.view.set]{fullShare} fd))
    (hback : (src.view.loc (d : Thread nD τ) ↦[src.view.set]{q} fs) ⊢ backPay m d j)
    (hland : ∀ fd, (dst.view.loc (dest d j : Thread nD τ) ↦[dst.view.set]{fullShare} (dst.view.write (Elt F) fd (src.view.read (Elt F) fs) Finset.univ))
      ⊢ landPay m (dest d j) j) :
    iprop(records m K ∗ sendKit d j ∗ (src.view.loc (d : Thread nD τ) ↦[src.view.set]{q} fs) ∗ Owes d j)
      ⊢ iprop(((cred (tallyAt (scell d j) () N) ∗ Owes d (j + 1)) -∗ runs d k Q) -∗ runs d (copyTo n src dst s r h1 h2 h0 k) Q) := by
  subst hn hs hr
  unfold Owes sendKit
  iintro ⟨#HR, ⟨Ht1, Ht2, ⟨%f, Hd⟩⟩, Hs, ⟨%W, HO⟩⟩ Hk
  ihave ⟨#HI1, #Hr1⟩ := (rec_dma m K d (sNum_lt ⟨j, hj⟩)) $$ HR
  ihave ⟨#HI2, #Hr2⟩ := (rec_dma m K (dest d j) (rNum_lt ⟨j, hj⟩)) $$ HR
  ihave Hd := (hdst f) $$ Hd
  icases Hd with ⟨%fd, Hd⟩
  iapply (Rounds.wp_send_pointsTo 𝒱₀ ER (rd m) (d : Thread nD τ) none (κ₁ := K (d, ⟨sNum j, (sNum_lt ⟨j, hj⟩).2⟩)) (κ₂ := K (dest d j, ⟨rNum j, (rNum_lt ⟨j, hj⟩).2⟩))
    (r₁ := 0) (r₂ := 0) (d₁ := 0) (d₂ := 0) (fd := fd) (fs := fs) (q := q)
    (by rw [duties_x m d (sNum_lt ⟨j, hj⟩)]; exact Finset.mem_singleton_self _) (by rw [duties_x m (dest d j) (rNum_lt ⟨j, hj⟩)]; exact Finset.mem_singleton_self _)
    () () N (show dst.view.amount (.dma (dS (rNum j))) = N from hN) (amount_x m d _ 0) (amount_x m (dest d j) _ 0) (owe d (j + 1)) (owe_step d hj) (W := W)
    (by rw [payload_send m d hj]; exact hback)
    (by rw [payload_recv m (dest d j) hj]; exact hland fd)) $$ [Ht1 Ht2 Hd Hs HO]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists _; iexact HO

end Cert.AllReduce

end
-- ==== Proof.Pieces.lean ====
/-
What a device holds of each buffer while it runs, and the rules of the body's statements in those terms.
-/
module

public import proofs.«01_k».proof.Proof.Rules

@[expose] public section

noncomputable section

namespace Cert.AllReduce

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## What the views read -/

theorem rowOf_val {g : ℕ} (hg : g < 32) (i : Fin 64) : (rowOf g i).val = 64 * g + i.val := by
  have := i.isLt
  show (64 * g + i.val) % 2048 = _
  omega

section Reads
variable (d : Dev nD) {t : ℕ} (ht : t < 32) (x : S64x2048.Idx)
include ht

theorem read_part (f : S1x2048x2048.Idx → Elt F .f32) : (partC d t).view.read (Elt F) f x = f (ix3 0 (rowOf (ord d t) (x 0)) (x 1)) :=
  congrArg f (partC_emb d ht x)
theorem read_res (f : S2048x2048.Idx → Elt F .f32) : (resC d t).view.read (Elt F) f x = f (ix2 (rowOf (ord d t) (x 0)) (x 1)) :=
  congrArg f (resC_emb d ht x)
theorem read_peer (f : S2048x2048.Idx → Elt F .f32) : (peerC d t).view.read (Elt F) f x = f (ix2 (rowOf (ord d t) (x 0)) (x 1)) :=
  congrArg f (peerC_emb d ht x)
theorem read_out (f : S2048x2048.Idx → Elt F .f32) : (outC d t).view.read (Elt F) f x = f (ix2 (rowOf (ord d t) (x 0)) (x 1)) :=
  congrArg f (outC_emb d ht x)
theorem outFull_at : outFull m d (ix2 (rowOf (ord d t) (x 0)) (x 1)) = blk m d (ord d t) (ix3 0 (x 0) (x 1)) := by
  have h0 : (x 0).val < 64 := (x 0).isLt
  have hv := rowOf_val (ordlt d ht) (x 0)
  unfold outFull
  have e1 : (rowOf (ord d t) (x 0)).val / 64 = ord d t := by omega
  have e2 : (⟨(rowOf (ord d t) (x 0)).val % 64, Nat.mod_lt _ (by decide)⟩ : Fin 64) = x 0 := Fin.ext (by show (rowOf (ord d t) (x 0)).val % 64 = (x 0).val; omega)
  show blk m d ((rowOf (ord d t) (x 0)).val / 64) (ix3 0 ⟨(rowOf (ord d t) (x 0)).val % 64, Nat.mod_lt _ (by decide)⟩ (x 1)) = _
  rw [e1, e2]
end Reads

theorem read_pbuf (t : ℕ) (x : S64x2048.Idx) (f : S2x64x2048.Idx → Elt F .f32) :
    (slotM pbufM t).view.read (Elt F) f x = f (ix3 ⟨t % 2, Nat.mod_lt _ (by decide)⟩ (x 0) (x 1)) :=
  congrArg f (slotS_emb t x (by decide))
theorem read_rbuf (t : ℕ) (x : S64x2048.Idx) (f : S2x64x2048.Idx → Elt F .f32) :
    (slotM rbufM t).view.read (Elt F) f x = f (ix3 ⟨t % 2, Nat.mod_lt _ (by decide)⟩ (x 0) (x 1)) :=
  congrArg f (slotS_emb t x (by decide))
theorem read_obuf (t : ℕ) (x : S64x2048.Idx) (f : S2x64x2048.Idx → Elt F .f32) :
    (slotM obufM t).view.read (Elt F) f x = f (ix3 ⟨t % 2, Nat.mod_lt _ (by decide)⟩ (x 0) (x 1)) :=
  congrArg f (slotS_emb t x (by decide))
theorem read_sbuf (r : Fin 8) (x : S64x2048.Idx) (f : S512x2048.Idx → Elt F .f32) :
    (sbufC r).view.read (Elt F) f x = f (ix2 ⟨(64 * r.val + (x 0).val) % 512, Nat.mod_lt _ (by decide)⟩ (x 1)) :=
  congrArg f (sbufR_emb r x)

theorem ck_lt {t : ℕ} (ht : t < 8) : (ck t).val = t := by
  unfold ck; dsimp only; rw [if_pos ht]; omega
theorem sbufG_at (d : Dev nD) {t : ℕ} (ht : t < 8) (x : S64x2048.Idx) :
    (sbufC (ck t)).view.read (Elt F) (sbufG m d) x = argP m d (ix3 0 (rowOf (ord d t) (x 0)) (x 1)) := by
  have h0 : (x 0).val < 64 := (x 0).isLt
  rw [read_sbuf, ck_lt ht]
  unfold sbufG
  have e1 : (64 * t + (x 0).val) % 512 / 64 = t := by omega
  have e2 : (⟨(64 * t + (x 0).val) % 512 % 64, Nat.mod_lt _ (by decide)⟩ : Fin 64) = x 0 := Fin.ext (by show (64 * t + (x 0).val) % 512 % 64 = (x 0).val; omega)
  show argP m d (ix3 0 (rowOf (ord d ((64 * t + (x 0).val) % 512 / 64)) ⟨(64 * t + (x 0).val) % 512 % 64, Nat.mod_lt _ (by decide)⟩) (x 1)) = _
  rw [e1, e2]
theorem peerFull_y (d : Dev nD) {t : ℕ} (ht : t < 8) (i : Fin 64) (l : Fin 2048) :
    peerFull m (py d) (ix2 (rowOf (ord d t) i) l) = argP m d (ix3 0 (rowOf (ord d t) i) l) := by
  have hv := rowOf_val (ordlt d (show t < 32 by omega)) i
  have hi := i.isLt
  unfold peerFull
  show argP m (srcDev (py d) ((rowOf (ord d t) i).val / 64)) (ix3 0 (rowOf (ord d t) i) l) = _
  rw [show (rowOf (ord d t) i).val / 64 = ord d t by omega, srcDev_y d ⟨t, ht⟩]

/-! ## Shares of a landed chunk -/

/-- What stays for the loads. -/
def kept (d : Dev nD) (t : ℕ) : sProp 𝕄 := peerAt d (ord d t) fullShare.left (peerFull m d)
/-- The copies that forward chunk `t`. -/
def fib (t : ℕ) : Finset ℕ := (Finset.Ico 8 32).filter fun j => srcT j = t
/-- What is left over where no copy forwards it. -/
def spare (d : Dev nD) (t : ℕ) : sProp 𝕄 := if fib t = ∅ then peerAt d (ord d t) fullShare.right (peerFull m d) else iprop(emp)
/-- What is lent to the copies. -/
def lent (d : Dev nD) (t : ℕ) : sProp 𝕄 := iprop((bigSep (fib t) (backPay m d)) ∗ spare m d t)

theorem fib_eq : ∀ t : Fin 32, fib t = if t.val < 8 then {8 + 2 * t.val, 9 + 2 * t.val}
    else if t.val < 24 then (if t.val % 2 = 0 then (if 16 ≤ t.val then {28 + (t.val - 15) / 2} else ∅) else (if t.val < 16 then {24 + (t.val - 8) / 2} else ∅))
    else ∅ := by decide +kernel

theorem peerAt_half (d : Dev nD) (g : ℕ) (f) :
    (peerAt d g fullShare f : sProp 𝕄) ⊣⊢ iprop(peerAt d g fullShare.left f ∗ peerAt d g fullShare.right f) := by
  unfold peerAt; exact pointsTo_share (PosShare.mem_left_op_right _)
theorem peerAt_quarter (d : Dev nD) (g : ℕ) (f) :
    (peerAt d g fullShare.right f : sProp 𝕄) ⊣⊢ iprop(peerAt d g fullShare.right.left f ∗ peerAt d g fullShare.right.right f) := by
  unfold peerAt; exact pointsTo_share (PosShare.mem_left_op_right _)

end Cert.AllReduce

end
-- ==== Proof.Local.lean ====
/-
The rules of the body's statements, in terms of the regions of the buffers they touch.
-/
module

public import proofs.«01_k».proof.Proof.Pieces

@[expose] public section

noncomputable section

namespace Cert.AllReduce

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## Regions as the views name them -/

section Views
variable (n d : Dev nD) {t : ℕ} (ht : t < 32)

include ht in
theorem peer_view (q : PosShare TreeShare) (f) :
    ((peerC d t).view.loc (n : Thread nD τ) ↦[(peerC d t).view.set]{q} f : sProp 𝕄) = peerAt n (ord d t) q f := by
  unfold peerAt; rw [peerC_set d ht]
include ht in
theorem out_view (f) : ((outC d t).view.loc (d : Thread nD τ) ↦[(outC d t).view.set]{fullShare} f : sProp 𝕄) = outAt d t f := by
  unfold outAt; rw [outC_set d ht]
include ht in
theorem part_view : ((partC d t).view.loc (d : Thread nD τ) ↦[(partC d t).view.set]{fullShare} argP m d : sProp 𝕄) = partAt m d t fullShare := by
  unfold partAt; rw [partC_set d ht]
include ht in
theorem res_view : ((resC d t).view.loc (d : Thread nD τ) ↦[(resC d t).view.set]{fullShare} argR m d : sProp 𝕄) = resAt m d t := by
  unfold resAt; rw [resC_set d ht]
theorem sbuf_view (r : Fin 8) (f) : ((sbufC r).view.loc (d : Thread nD τ) ↦[(sbufC r).view.set]{fullShare} f : sProp 𝕄) = sbufAt d r.val f := by
  unfold sbufAt; rw [sbufC_set]
theorem pbuf_view (t : ℕ) (f) : ((slotM pbufM t).view.loc (d : Thread nD τ) ↦[(slotM pbufM t).view.set]{fullShare} f : sProp 𝕄) = pbufAt d t f := by
  unfold pbufAt; rw [pbufS_set]
theorem rbuf_view (t : ℕ) (f) : ((slotM rbufM t).view.loc (d : Thread nD τ) ↦[(slotM rbufM t).view.set]{fullShare} f : sProp 𝕄) = rbufAt d t f := by
  unfold rbufAt; rw [rbufS_set]
theorem obuf_view (t : ℕ) (f) : ((slotM obufM t).view.loc (d : Thread nD τ) ↦[(slotM obufM t).view.set]{fullShare} f : sProp 𝕄) = obufAt d t f := by
  unfold obufAt; rw [obufS_set]
end Views

/-- A copy in flight on semaphore `s` that hands over `D` when it is waited for. -/
abbrev flight (d : Dev nD) (s : ℕ) (D : sProp 𝕄) : sProp 𝕄 := Flight EC (d : Thread nD τ) (.dma (dS s)) () N D

/-! ## Staging -/

theorem runs_stage {k : PR F} {Q : PUnit → sProp 𝕄} (d : Dev nD) {t : ℕ} (ht : t < 8) (f) :
    iprop(partAt m d t fullShare ∗ sbufAt d t f ∗ semVal (dcell d (65 + t)) 0)
      ⊢ iprop((flight d (65 + t) iprop(sbufAt d t (sbufG m d) ∗ partAt m d t fullShare) -∗ runs d k Q) -∗ runs d (stage d t k) Q) := by
  have e := ck_lt ht
  have h := runs_here (Q := Q) (k := k) d (partC d t) (sbufC (ck t)) (65 + ck t) (h1 := (View.wordExact_bits rfl).reshape _ _) (h2 := View.wordExact_bits rfl)
    (h3 := ⟨Or.inl rfl, trivial⟩) fullShare (argP m d) f (sbufG m d)
    (fun x => by rw [read_part d (by omega), sbufG_at m d ht]) (credit_sbuf _)
  rw [part_view m d (by omega), sbuf_view, sbuf_view] at h
  rw [show 65 + t = 65 + (ck t).val by rw [e], show (sbufAt d t : _ → sProp 𝕄) = sbufAt d (ck t).val by rw [e]]
  exact h

theorem runs_stageIn {k : PR F} {Q : PUnit → sProp 𝕄} (d : Dev nD) {t : ℕ} (ht : t < 32) (f g) :
    iprop(partAt m d t fullShare ∗ resAt m d t ∗ pbufAt d t f ∗ rbufAt d t g ∗ semVal (dcell d (73 + t % 2)) 0 ∗ semVal (dcell d (75 + t % 2)) 0)
      ⊢ iprop(((flight d (73 + t % 2) iprop(pbufAt d t (pbufG m d t) ∗ partAt m d t fullShare)
          ∗ flight d (75 + t % 2) iprop(rbufAt d t (rbufG m d t) ∗ resAt m d t)) -∗ runs d k Q) -∗ runs d (stageIn d t k) Q) := by
  have h1 := fun k : PR F => runs_here (Q := Q) (k := k) d (partC d t) (slotM pbufM t) (73 + t % 2) (h1 := (View.wordExact_bits rfl).reshape _ _) (h2 := (View.wordExact_bits rfl).reshape _ _)
    (h3 := ⟨Or.inl rfl, trivial⟩) fullShare (argP m d) f (pbufG m d t)
    (fun x => by rw [read_part d ht, read_pbuf]; rfl) (credit_slot t).1
  have h2 := runs_here (Q := Q) (k := k) d (resC d t) (slotM rbufM t) (75 + t % 2) (h1 := View.wordExact_bits rfl) (h2 := (View.wordExact_bits rfl).reshape _ _)
    (h3 := ⟨Or.inl rfl, trivial⟩) fullShare (argR m d) g (rbufG m d t)
    (fun x => by rw [read_res d ht, read_rbuf]; rfl) (credit_slot t).2.1
  rw [part_view m d ht, pbuf_view, pbuf_view] at h1
  rw [res_view m d ht, rbuf_view, rbuf_view] at h2
  unfold stageIn
  iintro ⟨H1, H2, H3, H4, H5, H6⟩ Hk
  iapply (h1 _) $$ [H1 H3 H5]
  · isplitl [H1]; · iexact H1
    isplitl [H3] <;> iassumption
  iintro HA
  iapply h2 $$ [H2 H4 H6]
  · isplitl [H2]; · iexact H2
    isplitl [H4] <;> iassumption
  iintro HB
  iapply Hk
  isplitl [HA] <;> iassumption

theorem runs_inWait {k : PR F} {Q : PUnit → sProp 𝕄} (d : Dev nD) (t n : ℕ) {D E : sProp 𝕄} :
    iprop(levAts L lv ∗ flight d (73 + t % 2) D ∗ flight d (75 + t % 2) E ∗ Owes d n)
      ⊢ iprop(((D ∗ E ∗ semVal (dcell d (73 + t % 2)) 0 ∗ semVal (dcell d (75 + t % 2)) 0 ∗ Owes d n) -∗ runs d k Q) -∗ runs d (inWait d t k) Q) := by
  have hm := Nat.mod_lt t (show 0 < 2 by decide)
  unfold inWait
  iintro ⟨#Hl, H1, H2, HO⟩ Hk
  iapply (runs_await d (partC d t) (slotM pbufM t) (73 + t % 2) (credit_slot t).1 (by omega) (by omega) n) $$ [H1 HO]
  · isplitr; · iexact Hl
    isplitl [H1] <;> iassumption
  iintro ⟨HD, Hv, HO⟩
  iapply (runs_await d (resC d t) (slotM rbufM t) (75 + t % 2) (credit_slot t).2.1 (by omega) (by omega) n) $$ [H2 HO]
  · isplitr; · iexact Hl
    isplitl [H2] <;> iassumption
  iintro ⟨HE, Hw, HO⟩
  iapply Hk
  isplitl [HD]; · iexact HD
  isplitl [HE]; · iexact HE
  isplitl [Hv]; · iexact Hv
  isplitl [Hw] <;> iassumption

theorem runs_outStart {k : PR F} {Q : PUnit → sProp 𝕄} (d : Dev nD) {t : ℕ} (ht : t < 32) (f) :
    iprop(obufAt d t (obufG m d t) ∗ outAt d t f ∗ semVal (dcell d (77 + t % 2)) 0)
      ⊢ iprop((flight d (77 + t % 2) iprop(outAt d t (outFull m d) ∗ obufAt d t (obufG m d t)) -∗ runs d k Q) -∗ runs d (outStart d t k) Q) := by
  have h := runs_here (Q := Q) (k := k) d (slotM obufM t) (outC d t) (77 + t % 2) (h1 := (View.wordExact_bits rfl).reshape _ _) (h2 := View.wordExact_bits rfl)
    (h3 := ⟨Or.inl rfl, trivial⟩) fullShare (obufG m d t) f (outFull m d)
    (fun x => by rw [read_obuf, read_out d ht, outFull_at m d ht]; rfl) (credit_out d t)
  rw [obuf_view, out_view d ht, out_view d ht] at h
  exact h

theorem runs_outWait {k : PR F} {Q : PUnit → sProp 𝕄} (d : Dev nD) (t n : ℕ) {D : sProp 𝕄} :
    iprop(levAts L lv ∗ flight d (77 + t % 2) D ∗ Owes d n)
      ⊢ iprop(((D ∗ semVal (dcell d (77 + t % 2)) 0 ∗ Owes d n) -∗ runs d k Q) -∗ runs d (outWait d t k) Q) := by
  have hm := Nat.mod_lt t (show 0 < 2 by decide)
  exact runs_await d (slotM obufM t) (outC d t) (77 + t % 2) (credit_out d t) (by omega) (by omega) n

/-! ## The loads and the store -/

section Compute
variable (d : Dev nD) {t : ℕ} (ht : t < 32)

theorem slot_range (t : ℕ) : Finset.univ.map (slotR t).emb ⊆ bset (t % 2) := by
  intro p hp
  obtain ⟨y, -, rfl⟩ := Finset.mem_map.1 hp
  rw [mem_bset, slot_emb]

theorem load_pbuf (t : ℕ) : (pbufM.access (slotR t)).read (Elt F) (pbufG m d t) = fun y => argP m d (ix3 0 (rowOf (ord d t) (y 1)) (y 2)) := by
  funext y
  exact congrArg (pbufG m d t) (slot_emb t y)
theorem load_rbuf (t : ℕ) : (rbufM.access (slotR t)).read (Elt F) (rbufG m d t) = fun y => argR m d (ix2 (rowOf (ord d t) (y 1)) (y 2)) := by
  funext y
  exact congrArg (rbufG m d t) (slot_emb t y)
include ht in
theorem load_peer : (peerM.access (rowR d t)).read (Elt F) (peerFull m d) = fun x => peerFull m d (ix2 (rowOf (ord d t) (x 0)) (x 1)) := by
  funext x
  exact congrArg (peerFull m d) (rowR_emb d ht x)
theorem gam_emb (y : S1x2048.Idx) : (gamR.emb y : S1x2048.Idx) = y := by
  funext a
  apply Fin.ext
  match a with
  | ⟨0, _⟩ => show 0 + 1 * (y 0).val = (y 0).val; omega
  | ⟨1, _⟩ => show 0 + 1 * (y 1).val = (y 1).val; omega
theorem load_gam (g : S1x2048.Idx → Elt F .f32) : (gamM.access gamR).read (Elt F) g = g := by
  funext y
  exact congrArg g (gam_emb y)

/-- What the store leaves in the slot. -/
theorem store_obuf (t : ℕ) (f : S2x64x2048.Idx → Elt F .f32) :
    ∀ p ∈ bset (t % 2), (obufM.access (slotR t)).write (Elt F) f (blk m d (ord d t)) Finset.univ p = obufG m d t p := by
  intro p hp
  have hm := Nat.mod_lt t (show 0 < 2 by decide)
  have e : p = (slotR t).emb (ix3 0 (p 1) (p 2) : S1x64x2048.Idx) := by
    rw [slot_emb]
    funext a
    apply Fin.ext
    match a with
    | ⟨0, _⟩ => exact mem_bset.1 hp
    | ⟨1, _⟩ => rfl
    | ⟨2, _⟩ => rfl
  have h := View.write_emb_of_mem (v := obufM.access (slotR t)) (Val := Elt F) f (blk m d (ord d t)) (Finset.mem_univ (ix3 0 (p 1) (p 2) : S1x64x2048.Idx))
  rw [← show p = (obufM.access (slotR t)).emb (ix3 0 (p 1) (p 2) : S1x64x2048.Idx) from e] at h
  rw [h]
  rfl

/-- Gamma's staging buffer. -/
def gamAt (d : Dev nD) : sProp 𝕄 := ((d : Thread nD τ).loc cc0_stg0_0) ↦[Finset.univ]{fullShare} (argG m d)

include ht in
theorem runs_compute {k : PR F} {Q : PUnit → sProp 𝕄} (f) :
    iprop(pbufAt d t (pbufG m d t) ∗ kept m d t ∗ rbufAt d t (rbufG m d t) ∗ gamAt m d ∗ obufAt d t f)
      ⊢ iprop(((pbufAt d t (pbufG m d t) ∗ kept m d t ∗ rbufAt d t (rbufG m d t) ∗ gamAt m d ∗ obufAt d t (obufG m d t)) -∗ runs d k Q)
        -∗ runs d (compute d t k) Q) := by
  unfold compute kept peerAt pbufAt rbufAt gamAt
  iintro ⟨H1, H2, H3, H4, H5⟩ Hk
  iapply (wp_load_rect 𝒱₀ (d : Thread nD τ) none Set.univ (m := pbufM) (r := slotR t) (slot_range t)) $$ H1; iintro H1
  rw [load_pbuf]
  iapply (wp_load_rect 𝒱₀ (d : Thread nD τ) none Set.univ (m := peerM) (r := rowR d t) (map_rows (ordlt d ht) (rowR_emb d ht)).subset) $$ H2; iintro H2
  rw [load_peer m d ht]
  iapply (wp_load_rect 𝒱₀ (d : Thread nD τ) none Set.univ (m := rbufM) (r := slotR t) (slot_range t)) $$ H3; iintro H3
  rw [load_rbuf]
  iapply (wp_load_rect 𝒱₀ (d : Thread nD τ) none Set.univ (m := gamM) (r := gamR) (Finset.subset_univ _)) $$ H4; iintro H4
  rw [load_gam]
  unfold obufAt
  iapply (wp_load_rect 𝒱₀ (d : Thread nD τ) none Set.univ (m := obufM) (r := slotR t) (slot_range t)) $$ H5; iintro H5
  iapply (wp_store 𝒱₀ (d : Thread nD τ) none Set.univ (m := obufM) (r := slotR t) (Mk := Finset.univ) (slot_range t)) $$ H5; iintro H5
  iapply Hk
  isplitl [H1]; · iexact H1
  isplitl [H2]; · iexact H2
  isplitl [H3]; · iexact H3
  isplitl [H4]; · iexact H4
  have e : ((obufM.access (slotR t)).loc (d : Thread nD τ) ↦[bset (t % 2)]{fullShare} ((obufM.access (slotR t)).write (Elt F) f (blk m d (ord d t)) Finset.univ) : sProp 𝕄)
      = (((d : Thread nD τ).loc cc0_scratch4) ↦[bset (t % 2)]{fullShare} obufG m d t) := pointsTo_congr (store_obuf m d t f)
  rw [← e]
  iexact H5
end Compute

/-! ## Copies to the neighbours -/

/-- What a copy lands: rows of the landing buffer at `n` whose contents are the source's. -/
theorem land_peer (d n : Dev nD) {t : ℕ} (ht : t < 32) {sp : Space} (src : Memref sig .tc sp S64x2048 .f32) (fs) (fd)
    (h : ∀ x, src.view.read (Elt F) fs x = peerFull m n (ix2 (rowOf (ord d t) (x 0)) (x 1))) :
    ((peerC d t).view.loc (n : Thread nD τ) ↦[(peerC d t).view.set]{fullShare} ((peerC d t).view.write (Elt F) fd (src.view.read (Elt F) fs) Finset.univ) : sProp 𝕄)
      = peerAt n (ord d t) fullShare (peerFull m n) := by
  rw [← peer_view n d ht]
  exact pointsTo_congr (written src (peerC d t) fs fd (peerFull m n) fun x => by rw [h, read_peer d ht])

/-- The copy of the own quarter's chunk to the y neighbour. -/
theorem runs_sendY (K : Dev nD × Fin 65 → ℕ) {k : PR F} {Q : PUnit → sProp 𝕄} (d : Dev nD) {t : ℕ} (ht : t < 8) :
    iprop(records m K ∗ sendKit d t ∗ sbufAt d t (sbufG m d) ∗ Owes d t)
      ⊢ iprop(((cred (tallyAt (scell d t) () N) ∗ Owes d (t + 1)) -∗ runs d k Q)
        -∗ runs d (copyTo (py d) (sbufC (ck t)) (peerC d t) (1 + ck t) (9 + ck t) (View.wordExact_bits rfl) (View.wordExact_bits rfl) rfl k) Q) := by
  have e := ck_lt ht
  have hd : py d = dest d t := by unfold dest dir; rw [if_pos ht]; rfl
  have ho : ord (dest d t) t = ord d t := by rw [← hd]; exact ord_dest_y d ⟨t, ht⟩
  have h := runs_to m K (k := k) (Q := Q) d (show t < 32 by omega) (py d) hd (sbufC (ck t)) (peerC d t) (1 + ck t) (9 + ck t)
    (by unfold sNum; rw [if_pos ht, e]) (by unfold rNum; rw [if_pos ht, e]) (h1 := View.wordExact_bits rfl) (h2 := View.wordExact_bits rfl) (h0 := rfl)
    fullShare (sbufG m d) (credit_peer d t)
    (fun f => by rw [ho, ← peer_view (dest d t) d (show t < 32 by omega)]; iintro H; iexists f; iexact H)
    (by rw [sbuf_view, e]; unfold backPay; rw [if_pos ht])
    (fun fd => by
      rw [land_peer m d (dest d t) (show t < 32 by omega) (sbufC (ck t)) (sbufG m d) fd
        (fun x => by rw [sbufG_at m d ht, ← hd]; exact (peerFull_y m d ht (x 0) (x 1)).symm)]
      unfold landPay; rw [ho])
  rw [sbuf_view, show (sbufAt d (ck t).val (sbufG m d) : sProp 𝕄) = sbufAt d t (sbufG m d) by rw [e]] at h
  exact h

/-- The copy on of a landed chunk. -/
theorem runs_sendXZ (K : Dev nD × Fin 65 → ℕ) {k : PR F} {Q : PUnit → sProp 𝕄} (d : Dev nD) {t j : ℕ} (hj : j < 32) (h8 : 8 ≤ j) (ht : srcT j = t) (n : Dev nD) (hn : n = dest d j) (s r : ℕ)
    (hs : s = sNum j) (hr : r = rNum j) :
    iprop(records m K ∗ sendKit d j ∗ backPay m d j ∗ Owes d j)
      ⊢ iprop(((cred (tallyAt (scell d j) () N) ∗ Owes d (j + 1)) -∗ runs d k Q)
        -∗ runs d (copyTo n (peerC d t) (peerC d t) s r (View.wordExact_bits rfl) (View.wordExact_bits rfl) rfl k) Q) := by
  have ht32 : t < 32 := by rw [← ht]; unfold srcT; split_ifs <;> omega
  have ho : ord (dest d j) j = ord d t := by rw [← ht]; exact ord_dest d ⟨j, hj⟩ h8
  have hb : backPay m d j = peerAt d (ord d t) (qs j) (peerFull m d) := by unfold backPay; rw [if_neg (by omega), ht]
  have h := runs_to m K (k := k) (Q := Q) d hj n hn (peerC d t) (peerC d t) s r
    hs hr (h1 := View.wordExact_bits rfl) (h2 := View.wordExact_bits rfl) (h0 := rfl)
    (qs j) (peerFull m d) (credit_peer d t)
    (fun f => by rw [ho, ← peer_view (dest d j) d ht32]; iintro H; iexists f; iexact H)
    (by rw [peer_view d d ht32, hb])
    (fun fd => by
      rw [land_peer m d (dest d j) ht32 (peerC d t) (peerFull m d) fd
        (fun x => by rw [read_peer d ht32, peerFull_dest m d hj h8])]
      unfold landPay; rw [ho])
  rw [peer_view d d ht32, ← hb] at h
  exact h

end Cert.AllReduce

end
-- ==== Proof.Loop.lean ====
/-
The loop: what a device holds before each step, and the steps.
-/
module

public import proofs.«01_k».proof.Proof.Local

@[expose] public section

noncomputable section

namespace Cert.AllReduce

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## Runs of numbers -/

theorem pop {a b : ℕ} (h : a < b) (Φ : ℕ → sProp 𝕄) : bigSep (Finset.Ico a b) Φ ⊢ iprop(Φ a ∗ bigSep (Finset.Ico (a + 1) b) Φ) := by
  rw [bigSep_Ico_succ_bot h]
theorem push (a : ℕ) (Φ : ℕ → sProp 𝕄) : iprop(Φ a ∗ bigSep (Finset.range a) Φ) ⊢ bigSep (Finset.range (a + 1)) Φ := by
  rw [bigSep_range_succ]
theorem pushI {a b : ℕ} (h : a ≤ b) (Φ : ℕ → sProp 𝕄) : iprop(Φ b ∗ bigSep (Finset.Ico a b) Φ) ⊢ bigSep (Finset.Ico a (b + 1)) Φ := by
  rw [bigSep_Ico_succ_top h]

variable (K : Dev nD × Fin 65 → ℕ)

/-- What stays known throughout. -/
def ctx : sProp 𝕄 := iprop(levAts L lv ∗ records m K)
instance ctx_persistent : BI.Persistent (ctx m K) := by unfold ctx; infer_instance

/-- A repeated statement, from what one repetition does. -/
theorem runs_rep (d : Dev nD) {Q : PUnit → sProp 𝕄} (f : ℕ → PR F → PR F) (I : ℕ → sProp 𝕄) (T : ℕ)
    (h : ∀ t, t < T → ∀ k, iprop(ctx m K ∗ I t) ⊢ iprop((I (t + 1) -∗ runs d k Q) -∗ runs d (f t k) Q)) (k : PR F) :
    ∀ n t, t + n ≤ T → iprop(ctx m K ∗ I t) ⊢ iprop((I (t + n) -∗ runs d k Q) -∗ runs d (rep f n t k) Q) := by
  intro n
  induction n with
  | zero =>
    intro t _
    iintro ⟨-, HI⟩ Hk
    iapply Hk
    iexact HI
  | succ n ih =>
    intro t ht
    have e : t + (n + 1) = t + 1 + n := by omega
    rw [e]
    iintro ⟨#Hc, HI⟩ Hk
    iapply (h t (by omega) (rep f n (t + 1) k)) $$ [HI]
    · isplitr; · iexact Hc
      iexact HI
    iintro HI
    iapply (ih (t + 1) (by omega)) $$ [HI]
    · isplitr; · iexact Hc
      iexact HI
    iexact Hk

/-! ## The state before a step -/

/-- How many copies to neighbours have been started before step `t`. -/
def nS (t : ℕ) : ℕ := if t < 8 then 8 + 2 * t else if t < 16 then 24 + (t - 8) / 2 else if t < 24 then 28 + (t - 15) / 2 else 32

theorem nS_le (t : ℕ) : nS t ≤ 32 := by unfold nS; split_ifs <;> omega

/-- What the wait for number `j` received needs. -/
def recvKit (d : Dev nD) (j : ℕ) : sProp 𝕄 := iprop(cred (tallyAt (rcell d j) () N) ∗ atPos ER (rcell d j) 0 ∅ 0)
/-- The credit for copy `j` once it is started. -/
def sentCred (d : Dev nD) (j : ℕ) : sProp 𝕄 := cred (tallyAt (scell d j) () N)
/-- Step `j`'s chunks of the arguments. -/
def argsAt (d : Dev nD) (j : ℕ) : sProp 𝕄 := iprop(partAt m d j fullShare ∗ resAt m d j)
/-- What is left of a chunk received, while the rest is lent. -/
def doneAt (d : Dev nD) (j : ℕ) : sProp 𝕄 := iprop(semVal (rcell d j) 0 ∗ kept m d j ∗ spare m d j)
/-- Step `j`'s chunk of the result before and after it is written. -/
def outAny (d : Dev nD) (j : ℕ) : sProp 𝕄 := iprop(∃ f, outAt d j f)
def outGot (d : Dev nD) (j : ℕ) : sProp 𝕄 := outAt d j (outFull m d)

/-- Step `t`'s input slots: free, or being filled. -/
def inFree (d : Dev nD) (t : ℕ) : sProp 𝕄 :=
  iprop((∃ f, pbufAt d t f) ∗ (∃ g, rbufAt d t g) ∗ semVal (dcell d (73 + t % 2)) 0 ∗ semVal (dcell d (75 + t % 2)) 0)
def inFill (d : Dev nD) (t : ℕ) : sProp 𝕄 :=
  iprop(flight d (73 + t % 2) iprop(pbufAt d t (pbufG m d t) ∗ partAt m d t fullShare)
    ∗ flight d (75 + t % 2) iprop(rbufAt d t (rbufG m d t) ∗ resAt m d t))
def inF (d : Dev nD) (t : ℕ) : sProp 𝕄 := if t < 32 then inFill m d t else inFree d t
/-- Step `t`'s result slot: free, or on its way out with the result of step `t - 2`. -/
def outFree (d : Dev nD) (t : ℕ) : sProp 𝕄 := iprop((∃ f, obufAt d t f) ∗ semVal (dcell d (77 + t % 2)) 0)
def outF (d : Dev nD) (t : ℕ) : sProp 𝕄 :=
  if 2 ≤ t then flight d (77 + t % 2) iprop(outAt d (t - 2) (outFull m d) ∗ obufAt d (t - 2) (obufG m d (t - 2))) else outFree d t

theorem inFree_two (d : Dev nD) (t : ℕ) : inFree (F := F) d (t + 2) = inFree d t := by
  unfold inFree pbufAt rbufAt; rw [Nat.add_mod_right]
theorem outF_two (d : Dev nD) (t : ℕ) :
    outF m d (t + 2) = flight d (77 + t % 2) iprop(outAt d t (outFull m d) ∗ obufAt d t (obufG m d t)) := by
  unfold outF; rw [if_pos (by omega), Nat.add_mod_right, Nat.add_sub_cancel]

/-- The copies: what is owed, what the ones to come need, the credits of the ones started. -/
def sends (d : Dev nD) (n : ℕ) : sProp 𝕄 :=
  iprop(Owes d n ∗ (bigSep (Finset.Ico n 32) (sendKit d)) ∗ bigSep (Finset.range n) (sentCred d))

/-- Everything device `d` holds before step `t`. -/
def inv (d : Dev nD) (t : ℕ) : sProp 𝕄 :=
  iprop(sends d (nS t)
    ∗ (bigSep (Finset.Ico t 32) (recvKit d)) ∗ (bigSep (Finset.range t) (doneAt m d))
    ∗ (bigSep (Finset.Ico (t + 1) 32) (argsAt m d)) ∗ (bigSep (Finset.range t) (argsAt m d))
    ∗ inF m d t ∗ inFree d (t + 1) ∗ outF m d t ∗ outF m d (t + 1)
    ∗ (bigSep (Finset.Ico t 32) (outAny d)) ∗ (bigSep (Finset.range (t - 2)) (outGot m d)) ∗ gamAt m d)

/-! ## The parts of a step -/

theorem ck_val (t : ℕ) (ht : t < 32) : (ck t).val = if t < 8 then t else if t < 24 then (t - 8) / 2 else t - 24 := by
  unfold ck; dsimp only; split_ifs <;> omega

theorem runs_recvStep {k : PR F} {Q : PUnit → sProp 𝕄} (d : Dev nD) {t : ℕ} (ht : t < 32) :
    iprop(ctx m K ∗ recvKit d t ∗ sends d (nS t))
      ⊢ iprop(((landPay m d t ∗ semVal (rcell d t) 0 ∗ sends d (nS t)) -∗ runs d k Q) -∗ runs d (recvWait d t k) Q) := by
  have hlv : ∀ i, nS t ≤ i → i < 32 → rlv t < rlv i := by
    intro i h1 h2
    unfold nS at h1
    unfold rlv
    split_ifs at h1 ⊢ <;> omega
  have e := ck_val t ht
  have key : ∀ (sp sp' : Space) (src : Memref sig .tc sp S64x2048 .f32) (dst : Memref sig .tc sp' S64x2048 .f32) (s : ℕ) (h1 : src.view.WordExact) (h2 : dst.view.WordExact),
      dst.view.dmaCredit = N → s = rNum t → (iprop(ctx m K ∗ recvKit d t ∗ sends d (nS t))
      ⊢ iprop(((landPay m d t ∗ semVal (rcell d t) 0 ∗ sends d (nS t)) -∗ runs d k Q) -∗ runs d (waitOn s src dst h1 h2 k) Q)) := by
    intro sp sp' src dst s h1 h2 hN hs
    unfold ctx recvKit sends
    iintro ⟨⟨#Hl, #HR⟩, ⟨Hc, Ha⟩, HO, Hrest⟩ Hk
    iapply (runs_recv m K d src dst s hN ht hs (nS t) hlv) $$ [Hc Ha HO]
    · isplitr; · iexact Hl
      isplitr; · iexact HR
      isplitl [Hc]; · iexact Hc
      isplitl [Ha] <;> iassumption
    iintro ⟨HP, Hv, HO⟩
    iapply Hk
    isplitl [HP]; · iexact HP
    isplitl [Hv]; · iexact Hv
    isplitl [HO] <;> iassumption
  unfold recvWait
  split_ifs with h1 h2 h3 h4
  · exact key _ _ _ _ _ _ _ (credit_peer d _) (by unfold rNum; rw [if_pos h1, e, if_pos h1])
  · exact key _ _ _ _ _ _ _ (credit_peer d _) (by unfold rNum; rw [if_neg h1, if_pos h2, if_pos h3, e, if_neg h1, if_pos h2])
  · exact key _ _ _ _ _ _ _ (credit_peer d _) (by unfold rNum; rw [if_neg h1, if_pos h2, if_neg h3, e, if_neg h1, if_pos h2])
  · exact key _ _ _ _ _ _ _ (credit_peer d _) (by unfold rNum; rw [if_neg h1, if_neg h2, if_pos h4])
  · exact key _ _ _ _ _ _ _ (credit_peer d _) (by unfold rNum; rw [if_neg h1, if_neg h2, if_neg h4])

/-- Copy `j` on of a landed chunk, with the copies' state. -/
theorem runs_sendOn {k : PR F} {Q : PUnit → sProp 𝕄} (d : Dev nD) {t j : ℕ} (hj : j < 32) (h8 : 8 ≤ j) (ht : srcT j = t) (n : Dev nD) (hn : n = dest d j) (s r : ℕ)
    (hs : s = sNum j) (hr : r = rNum j) :
    iprop(ctx m K ∗ backPay m d j ∗ sends d j)
      ⊢ iprop((sends d (j + 1) -∗ runs d k Q)
        -∗ runs d (copyTo n (peerC d t) (peerC d t) s r (View.wordExact_bits rfl) (View.wordExact_bits rfl) rfl k) Q) := by
  unfold ctx sends
  iintro ⟨⟨-, #HR⟩, HB, HO, HS, HC⟩ Hk
  ihave HS := (pop hj (sendKit d)) $$ HS
  icases HS with ⟨HS1, HS⟩
  iapply (runs_sendXZ m K d hj h8 ht n hn s r hs hr) $$ [HB HS1 HO]
  · isplitr; · iexact HR
    isplitl [HS1]; · iexact HS1
    isplitl [HB] <;> iassumption
  iintro ⟨Hc, HO⟩
  iapply Hk
  isplitl [HO]; · iexact HO
  isplitl [HS]; · iexact HS
  iapply (push j (sentCred d))
  unfold sentCred
  isplitl [Hc] <;> iassumption

theorem lent_two (d : Dev nD) {t a b : ℕ} (h : fib t = {a, b}) (hab : a ≠ b) : lent m d t ⊣⊢ iprop(backPay m d a ∗ backPay m d b) := by
  unfold lent spare
  rw [h, if_neg (by simp), bigSep_insert (by simpa using hab), bigSep_singleton]
  exact sep_emp
theorem lent_one (d : Dev nD) {t a : ℕ} (h : fib t = {a}) : lent m d t ⊣⊢ backPay m d a := by
  unfold lent spare
  rw [h, if_neg (by simp), bigSep_singleton]
  exact sep_emp
theorem lent_none (d : Dev nD) {t : ℕ} (h : fib t = ∅) : lent m d t ⊣⊢ peerAt d (ord d t) fullShare.right (peerFull m d) := by
  unfold lent spare
  rw [h, if_pos rfl, bigSep_empty]
  exact emp_sep
theorem spare_emp (d : Dev nD) {t : ℕ} (h : fib t ≠ ∅) : spare m d t = iprop(emp) := by
  unfold spare; rw [if_neg h]

theorem fib_at {t : ℕ} (ht : t < 32) : fib t = if t < 8 then {8 + 2 * t, 9 + 2 * t}
    else if t < 24 then (if t % 2 = 0 then (if 16 ≤ t then {28 + (t - 15) / 2} else ∅) else (if t < 16 then {24 + (t - 8) / 2} else ∅))
    else ∅ := fib_eq ⟨t, ht⟩

theorem back_at (d : Dev nD) {j t : ℕ} (h8 : 8 ≤ j) (ht : srcT j = t) {q : PosShare TreeShare} (hq : qs j = q) :
    backPay m d j = peerAt d (ord d t) q (peerFull m d) := by
  unfold backPay; rw [if_neg (by omega), ht, hq]

theorem sep_right {A B C : sProp 𝕄} (h : B ⊣⊢ C) : iprop(A ∗ B) ⊣⊢ iprop(A ∗ C) :=
  ⟨sep_mono BIBase.Entails.rfl h.1, sep_mono BIBase.Entails.rfl h.2⟩

/-- The half of a landed chunk not kept is what is lent. -/
theorem lent_eq (d : Dev nD) {t : ℕ} (ht : t < 32) : (peerAt d (ord d t) fullShare.right (peerFull m d) : sProp 𝕄) ⊣⊢ lent m d t := by
  have hf := fib_at ht
  split_ifs at hf with h1 h2 h3 h4 h5
  · refine (peerAt_quarter d (ord d t) (peerFull m d)).trans ?_
    rw [← back_at m d (j := 8 + 2 * t) (by omega) (by unfold srcT; rw [if_pos (by omega)]; omega) (by unfold qs; rw [if_pos (by omega), if_pos (by omega)]),
      ← back_at m d (j := 9 + 2 * t) (by omega) (by unfold srcT; rw [if_pos (by omega)]; omega) (by unfold qs; rw [if_pos (by omega), if_neg (by omega)])]
    exact (lent_two m d hf (by omega)).symm
  · rw [← back_at m d (j := 28 + (t - 15) / 2) (by omega) (by unfold srcT; rw [if_neg (by omega), if_neg (by omega)]; omega) (by unfold qs; rw [if_neg (by omega)])]
    exact (lent_one m d hf).symm
  · exact (lent_none m d hf).symm
  · rw [← back_at m d (j := 24 + (t - 8) / 2) (by omega) (by unfold srcT; rw [if_neg (by omega), if_pos (by omega)]; omega) (by unfold qs; rw [if_neg (by omega)])]
    exact (lent_one m d hf).symm
  · exact (lent_none m d hf).symm
  · exact (lent_none m d hf).symm

/-- A landed chunk is what is kept and what is lent. -/
theorem land_split (d : Dev nD) {t : ℕ} (ht : t < 32) : landPay m d t ⊣⊢ iprop(kept m d t ∗ lent m d t) :=
  (peerAt_half d (ord d t) (peerFull m d)).trans (sep_right (lent_eq m d ht))

theorem spare_eq (d : Dev nD) {t : ℕ} (h : fib t = ∅) : lent m d t ⊣⊢ spare m d t := by
  refine (lent_none m d h).trans ?_
  unfold spare
  rw [if_pos h]

/-- The copies a step starts. -/
theorem runs_starts {k : PR F} {Q : PUnit → sProp 𝕄} (d : Dev nD) {t : ℕ} (ht : t < 32) :
    iprop(ctx m K ∗ lent m d t ∗ sends d (nS t))
      ⊢ iprop(((spare m d t ∗ sends d (nS (t + 1))) -∗ runs d k Q) -∗ runs d (starts d t k) Q) := by
  have hf := fib_at ht
  have e := ck_val t ht
  have idle : fib t = ∅ → nS (t + 1) = nS t → (iprop(ctx m K ∗ lent m d t ∗ sends d (nS t))
      ⊢ iprop(((spare m d t ∗ sends d (nS (t + 1))) -∗ runs d k Q) -∗ runs d k Q)) := by
    intro h hn
    rw [hn]
    iintro ⟨-, HL, HS⟩ Hk
    iapply Hk
    isplitl [HL]
    · iapply (spare_eq m d h).1; iexact HL
    · iexact HS
  have one : ∀ j n s r, fib t = {j} → j = nS t → j + 1 = nS (t + 1) → 8 ≤ j → j < 32 → srcT j = t → n = dest d j → s = sNum j → r = rNum j →
      (iprop(ctx m K ∗ lent m d t ∗ sends d (nS t)) ⊢ iprop(((spare m d t ∗ sends d (nS (t + 1))) -∗ runs d k Q)
        -∗ runs d (copyTo n (peerC d t) (peerC d t) s r (View.wordExact_bits rfl) (View.wordExact_bits rfl) rfl k) Q)) := by
    intro j n s r h hj hj' h8 h32 hs hn hs' hr
    rw [← hj, ← hj', spare_emp m d (by rw [h]; simp)]
    iintro ⟨#Hc, HL, HS⟩ Hk
    ihave HL := (lent_one m d h).1 $$ HL
    iapply (runs_sendOn m K d h32 h8 hs n hn s r hs' hr) $$ [HL HS]
    · isplitr; · iexact Hc
      isplitl [HL] <;> iassumption
    iintro HS
    iapply Hk
    isplitr; · iempintro
    iexact HS
  unfold starts
  split_ifs at hf ⊢ with h1 h2 h3 h4 h5
  · have n0 : nS t = 8 + 2 * t := by unfold nS; rw [if_pos h1]
    have n1 : nS (t + 1) = 9 + 2 * t + 1 := by unfold nS; split_ifs <;> omega
    rw [n0, n1, spare_emp m d (by rw [hf]; simp)]
    iintro ⟨#Hc, HL, HS⟩ Hk
    ihave HL := (lent_two m d hf (by omega)).1 $$ HL
    icases HL with ⟨HA, HB⟩
    iapply (runs_sendOn m K d (j := 8 + 2 * t) (by omega) (by omega) (by unfold srcT; rw [if_pos (by omega)]; omega) (px d)
      (by unfold dest dir; rw [if_neg (by omega), if_pos (by omega), if_pos (by omega)]; rfl) (17 + ck t) (25 + ck t)
      (by unfold sNum; rw [e, if_pos h1, if_neg (by omega), if_pos (by omega), if_pos (by omega)]; omega)
      (by unfold rNum; rw [e, if_pos h1, if_neg (by omega), if_pos (by omega), if_pos (by omega)]; omega)) $$ [HA HS]
    · isplitr; · iexact Hc
      isplitl [HA] <;> iassumption
    iintro HS
    rw [show 8 + 2 * t + 1 = 9 + 2 * t by omega]
    iapply (runs_sendOn m K d (j := 9 + 2 * t) (by omega) (by omega) (by unfold srcT; rw [if_pos (by omega)]; omega) (pz d)
      (by unfold dest dir; rw [if_neg (by omega), if_pos (by omega), if_neg (by omega)]; rfl) (33 + ck t) (41 + ck t)
      (by unfold sNum; rw [e, if_pos h1, if_neg (by omega), if_pos (by omega), if_neg (by omega)]; omega)
      (by unfold rNum; rw [e, if_pos h1, if_neg (by omega), if_pos (by omega), if_neg (by omega)]; omega)) $$ [HB HS]
    · isplitr; · iexact Hc
      isplitl [HB] <;> iassumption
    iintro HS
    iapply Hk
    isplitr; · iempintro
    iexact HS
  · exact one (28 + (t - 15) / 2) _ _ _ hf (by unfold nS; split_ifs <;> omega) (by unfold nS; split_ifs <;> omega) (by omega) (by omega)
      (by unfold srcT; rw [if_neg (by omega), if_neg (by omega)]; omega)
      (by unfold dest dir; rw [if_neg (by omega), if_neg (by omega), if_neg (by omega)]; rfl)
      (by unfold sNum; rw [e, if_neg h1, if_pos h2, if_neg (by omega), if_neg (by omega), if_neg (by omega)]; omega)
      (by unfold rNum; rw [e, if_neg h1, if_pos h2, if_neg (by omega), if_neg (by omega), if_neg (by omega)]; omega)
  · exact idle hf (by unfold nS; split_ifs <;> omega)
  · exact one (24 + (t - 8) / 2) _ _ _ hf (by unfold nS; split_ifs <;> omega) (by unfold nS; split_ifs <;> omega) (by omega) (by omega)
      (by unfold srcT; rw [if_neg (by omega), if_pos (by omega)]; omega)
      (by unfold dest dir; rw [if_neg (by omega), if_neg (by omega), if_pos (by omega)]; rfl)
      (by unfold sNum; rw [e, if_neg h1, if_pos h2, if_neg (by omega), if_neg (by omega), if_pos (by omega)]; omega)
      (by unfold rNum; rw [e, if_neg h1, if_pos h2, if_neg (by omega), if_neg (by omega), if_pos (by omega)]; omega)
  · exact idle hf (by unfold nS; split_ifs <;> omega)
  · exact idle hf (by unfold nS; split_ifs <;> omega)

/-! ## A step -/

/-- The start of the next step's input copies, if there is a next step. -/
theorem runs_stageNext {k : PR F} {Q : PUnit → sProp 𝕄} (d : Dev nD) {t : ℕ} (ht : t < 32) :
    iprop((bigSep (Finset.Ico (t + 1) 32) (argsAt m d)) ∗ inFree d (t + 1))
      ⊢ iprop((((bigSep (Finset.Ico (t + 2) 32) (argsAt m d)) ∗ inF m d (t + 1)) -∗ runs d k Q)
        -∗ runs d ((fun k => if t + 1 < 32 then stageIn d (t + 1) k else k) k) Q) := by
  dsimp only
  unfold inF
  split_ifs with h
  · unfold inFree
    iintro ⟨HA, ⟨%f, H1⟩, ⟨%g, H2⟩, H3, H4⟩ Hk
    ihave HA := (pop h (argsAt m d)) $$ HA
    icases HA with ⟨HA1, HA⟩
    unfold argsAt
    icases HA1 with ⟨HP, HR⟩
    iapply (runs_stageIn m d h f g) $$ [HP HR H1 H2 H3 H4]
    · isplitl [HP]; · iexact HP
      isplitl [HR]; · iexact HR
      isplitl [H1]; · iexact H1
      isplitl [H2]; · iexact H2
      isplitl [H3] <;> iassumption
    iintro HF
    iapply Hk
    isplitl [HA]; · iexact HA
    unfold inFill
    iexact HF
  · rw [Finset.Ico_eq_empty (by omega), Finset.Ico_eq_empty (by omega)]
    iintro ⟨HA, HF⟩ Hk
    iapply Hk
    isplitl [HA] <;> iassumption

/-- The wait for the result copy of the step before last, if there was one. -/
theorem runs_outPrev {k : PR F} {Q : PUnit → sProp 𝕄} (d : Dev nD) (t n : ℕ) :
    iprop(ctx m K ∗ outF m d t ∗ (bigSep (Finset.range (t - 2)) (outGot m d)) ∗ Owes d n)
      ⊢ iprop((((∃ f, obufAt d t f) ∗ semVal (dcell d (77 + t % 2)) 0 ∗ (bigSep (Finset.range (t + 1 - 2)) (outGot m d)) ∗ Owes d n) -∗ runs d k Q)
        -∗ runs d ((fun k => if 2 ≤ t then outWait d (t - 2) k else k) k) Q) := by
  dsimp only
  unfold outF ctx
  split_ifs with h
  · have e : (t - 2) % 2 = t % 2 := by omega
    iintro ⟨⟨#Hl, -⟩, HF, HG, HO⟩ Hk
    iapply (runs_outWait d (t - 2) n) $$ [HF HO]
    · isplitr; · iexact Hl
      isplitl [HF]
      · rw [e]; iexact HF
      · iexact HO
    iintro ⟨⟨HD, HB⟩, Hv, HO⟩
    iapply Hk
    isplitl [HB]
    · iexists obufG m d (t - 2)
      unfold obufAt
      rw [e]
      iexact HB
    isplitl [Hv]; · rw [e]; iexact Hv
    isplitl [HD HG]
    · rw [show t + 1 - 2 = t - 2 + 1 by omega]
      iapply (push (t - 2) (outGot m d))
      unfold outGot
      isplitl [HD] <;> iassumption
    · iexact HO
  · rw [show t + 1 - 2 = 0 by omega, show t - 2 = 0 by omega]
    unfold outFree
    iintro ⟨-, ⟨HB, Hv⟩, HG, HO⟩ Hk
    iapply Hk
    isplitl [HB]; · iexact HB
    isplitl [Hv]; · iexact Hv
    isplitl [HG] <;> iassumption

theorem inF_fill (d : Dev nD) {t : ℕ} (ht : t < 32) :
    inF m d t ⊢ iprop(flight d (73 + t % 2) iprop(pbufAt d t (pbufG m d t) ∗ partAt m d t fullShare)
      ∗ flight d (75 + t % 2) iprop(rbufAt d t (rbufG m d t) ∗ resAt m d t)) := by
  unfold inF
  rw [if_pos ht]
  unfold inFill
  exact BIBase.Entails.rfl

theorem ctx_lev : ctx m K ⊢ levAts L lv := by
  unfold ctx
  iintro ⟨H, -⟩
  iexact H

/-- A step. -/
theorem runs_step {k : PR F} {Q : PUnit → sProp 𝕄} (d : Dev nD) {t : ℕ} (ht : t < 32) :
    iprop(ctx m K ∗ inv m d t) ⊢ iprop((inv m d (t + 1) -∗ runs d k Q) -∗ runs d (step d t k) Q) := by
  unfold inv step
  iintro ⟨#Hc, HS, HRK, HD, HA, HA', HI, HI', HO, HO', HT, HG, Hg⟩ Hk
  ihave HRK := (pop ht (recvKit d)) $$ HRK
  icases HRK with ⟨HR1, HRK⟩
  iapply (runs_recvStep m K d ht) $$ [HR1 HS]
  · isplitr; · iexact Hc
    isplitl [HR1] <;> iassumption
  iintro ⟨HL, Hv, HS⟩
  ihave HL := (land_split m d ht).1 $$ HL
  icases HL with ⟨HK, HL⟩
  iapply (runs_starts m K d ht) $$ [HL HS]
  · isplitr; · iexact Hc
    isplitl [HL] <;> iassumption
  iintro ⟨Hsp, HS⟩
  iapply (runs_stageNext m d ht) $$ [HA HI']
  · isplitl [HA] <;> iassumption
  iintro ⟨HA, HI'⟩
  unfold sends
  icases HS with ⟨HS, HS'⟩
  ihave HI := (inF_fill m d ht) $$ HI
  icases HI with ⟨HI1, HI2⟩
  iapply (runs_inWait d t (nS (t + 1))) $$ [HI1 HI2 HS]
  · isplitr
    · iapply (ctx_lev m K); iexact Hc
    isplitl [HI1]; · iexact HI1
    isplitl [HI2] <;> iassumption
  iintro ⟨⟨HP, HPa⟩, ⟨HR, HRa⟩, Hv1, Hv2, HS⟩
  iapply (runs_outPrev m K d t (nS (t + 1))) $$ [HO HG HS]
  · isplitr; · iexact Hc
    isplitl [HO]; · iexact HO
    isplitl [HG] <;> iassumption
  iintro ⟨⟨%fo, HB⟩, Hv3, HG, HS⟩
  iapply (runs_compute m d ht fo) $$ [HP HK HR Hg HB]
  · isplitl [HP]; · iexact HP
    isplitl [HK]; · iexact HK
    isplitl [HR]; · iexact HR
    isplitl [Hg] <;> iassumption
  iintro ⟨HP, HK, HR, Hg, HB⟩
  ihave HT := (pop ht (outAny d)) $$ HT
  icases HT with ⟨HT1, HT⟩
  unfold outAny
  icases HT1 with ⟨%ft, HT1⟩
  iapply (runs_outStart m d ht ft) $$ [HB HT1 Hv3]
  · isplitl [HB]; · iexact HB
    isplitl [HT1] <;> iassumption
  iintro HF
  iapply Hk
  isplitl [HS HS']
  · isplitl [HS] <;> iassumption
  isplitl [HRK]; · iexact HRK
  isplitl [HD Hv HK Hsp]
  · iapply (push t (doneAt m d))
    isplitr [HD]
    · unfold doneAt
      isplitl [Hv]; · iexact Hv
      isplitl [HK] <;> iassumption
    · iexact HD
  isplitl [HA]; · iexact HA
  isplitl [HA' HPa HRa]
  · iapply (push t (argsAt m d))
    isplitr [HA']
    · unfold argsAt
      isplitl [HPa] <;> iassumption
    · iexact HA'
  isplitl [HI']; · iexact HI'
  isplitl [HP HR Hv1 Hv2]
  · rw [show t + 1 + 1 = t + 2 by omega, inFree_two]
    unfold inFree
    isplitl [HP]; · iexists _; iexact HP
    isplitl [HR]; · iexists _; iexact HR
    isplitl [Hv1] <;> iassumption
  isplitl [HO']; · iexact HO'
  isplitl [HF]
  · rw [show t + 1 + 1 = t + 2 by omega, outF_two]
    iexact HF
  isplitl [HT]; · iexact HT
  isplitl [HG] <;> iassumption

end Cert.AllReduce

end
-- ==== Proof.Body.lean ====
/-
The body after the barrier, from the rules of its statements.
-/
module

public import proofs.«01_k».proof.Proof.Loop

@[expose] public section

noncomputable section

namespace Cert.AllReduce

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 65 → ℕ)

/-! ## Runs of numbers, cut and joined -/

theorem cut {a b c : ℕ} (h1 : a ≤ b) (h2 : b ≤ c) (Φ : ℕ → sProp 𝕄) :
    bigSep (Finset.Ico a c) Φ = iprop(bigSep (Finset.Ico a b) Φ ∗ bigSep (Finset.Ico b c) Φ) := by
  rw [← Finset.Ico_union_Ico_eq_Ico h1 h2, bigSep_union (Finset.Ico_disjoint_Ico_consecutive a b c)]
  rfl

theorem zip (s : Finset ℕ) (Φ Ψ : ℕ → sProp 𝕄) : bigSep s (fun j => iprop(Φ j ∗ Ψ j)) = iprop(bigSep s Φ ∗ bigSep s Ψ) := bigSep_sep' _ _ _

/-! ## Staging and the exchange along y -/

/-- What the copy of chunk `t` of the own quarter to the staging buffer needs, and what it gives. -/
def stageKit (d : Dev nD) (t : ℕ) : sProp 𝕄 := iprop(partAt m d t fullShare ∗ (∃ f, sbufAt d t f) ∗ semVal (dcell d (65 + t)) 0)
def stageFlight (d : Dev nD) (t : ℕ) : sProp 𝕄 := flight d (65 + t) iprop(sbufAt d t (sbufG m d) ∗ partAt m d t fullShare)
def stageDone (d : Dev nD) (t : ℕ) : sProp 𝕄 := iprop(partAt m d t fullShare ∗ semVal (dcell d (65 + t)) 0)

def invS (d : Dev nD) (t : ℕ) : sProp 𝕄 := iprop((bigSep (Finset.Ico t 8) (stageKit m d)) ∗ bigSep (Finset.range t) (stageFlight m d))
def invE (d : Dev nD) (t : ℕ) : sProp 𝕄 :=
  iprop((bigSep (Finset.Ico t 8) (stageFlight m d)) ∗ (bigSep (Finset.range t) (stageDone m d)) ∗ sends d t)

theorem runs_stageStep (d : Dev nD) {Q : PUnit → sProp 𝕄} (t : ℕ) (ht : t < 8) (k : PR F) :
    iprop(ctx m K ∗ invS m d t) ⊢ iprop((invS m d (t + 1) -∗ runs d k Q) -∗ runs d (stage d t k) Q) := by
  unfold invS
  iintro ⟨-, HT, HF⟩ Hk
  ihave HT := (pop ht (stageKit m d)) $$ HT
  icases HT with ⟨HT1, HT⟩
  unfold stageKit
  icases HT1 with ⟨H1, ⟨%f, H2⟩, H3⟩
  iapply (runs_stage m d ht f) $$ [H1 H2 H3]
  · isplitl [H1]; · iexact H1
    isplitl [H2] <;> iassumption
  iintro H
  iapply Hk
  isplitl [HT]; · iexact HT
  iapply (push t (stageFlight m d))
  unfold stageFlight
  isplitl [H] <;> iassumption

theorem runs_exchStep (d : Dev nD) {Q : PUnit → sProp 𝕄} (t : ℕ) (ht : t < 8) (k : PR F) :
    iprop(ctx m K ∗ invE m d t) ⊢ iprop((invE m d (t + 1) -∗ runs d k Q) -∗ runs d (exch d t k) Q) := by
  have e := ck_lt ht
  have hw : ∀ (k : PR F), iprop(levAts L lv ∗ stageFlight m d t ∗ Owes d t)
      ⊢ iprop((((sbufAt d t (sbufG m d) ∗ partAt m d t fullShare) ∗ semVal (dcell d (65 + t)) 0 ∗ Owes d t) -∗ runs d k Q)
        -∗ runs d (waitOn (65 + ck t) (partC d t) (sbufC (ck t)) ((View.wordExact_bits rfl).reshape _ _) (View.wordExact_bits rfl) k) Q) := by
    intro k
    unfold stageFlight
    rw [show 65 + t = 65 + (ck t).val by rw [e]]
    exact runs_await d (partC d t) (sbufC (ck t)) (65 + ck t) (credit_sbuf _) (by omega) (by omega) t
  unfold invE exch
  iintro ⟨#Hc, HF, HD, HS⟩ Hk
  ihave HF := (pop ht (stageFlight m d)) $$ HF
  icases HF with ⟨HF1, HF⟩
  unfold sends
  icases HS with ⟨HO, HS, HC⟩
  iapply (hw _) $$ [HF1 HO]
  · isplitr; · iapply (ctx_lev m K); iexact Hc
    isplitl [HF1] <;> iassumption
  iintro ⟨⟨HB, HP⟩, Hv, HO⟩
  ihave HS := (pop (show t < 32 by omega) (sendKit d)) $$ HS
  icases HS with ⟨HS1, HS⟩
  iapply (runs_sendY m K d ht) $$ [HB HS1 HO]
  · isplitr
    · unfold ctx; icases Hc with ⟨-, #HR⟩; iexact HR
    isplitl [HS1]; · iexact HS1
    isplitl [HB] <;> iassumption
  iintro ⟨Hcr, HO⟩
  iapply Hk
  isplitl [HF]; · iexact HF
  isplitl [HD HP Hv]
  · iapply (push t (stageDone m d))
    isplitr [HD]
    · unfold stageDone
      isplitl [HP] <;> iassumption
    · iexact HD
  isplitl [HO]; · iexact HO
  isplitl [HS]; · iexact HS
  iapply (push t (sentCred d))
  isplitl [Hcr]
  · unfold sentCred; iexact Hcr
  · iexact HC

/-! ## The waits for the copies sent -/

/-- What the wait for copy `j` sent needs, and what it gives. -/
def sentKit (d : Dev nD) (j : ℕ) : sProp 𝕄 := iprop(sentCred d j ∗ atPos ER (scell d j) 0 ∅ 0)
def backAt (d : Dev nD) (j : ℕ) : sProp 𝕄 := iprop(backPay m d j ∗ semVal (scell d j) 0)

theorem runs_sentStep {sp sp' : Space} (d : Dev nD) (src : Memref sig .tc sp S64x2048 .f32) (dst : Memref sig .tc sp' S64x2048 .f32) (s : ℕ)
    {h1 : src.view.WordExact} {h2 : dst.view.WordExact} {k : PR F} {Q : PUnit → sProp 𝕄} (hN : dst.view.dmaCredit = N)
    {j : ℕ} (hj : j < 32) (hs : s = sNum j) :
    iprop(ctx m K ∗ sentKit d j ∗ Owes d 32)
      ⊢ iprop(((backAt m d j ∗ Owes d 32) -∗ runs d k Q) -∗ runs d (waitOn s src dst h1 h2 k) Q) := by
  unfold ctx sentKit sentCred backAt
  iintro ⟨⟨#Hl, #HR⟩, ⟨Hc, Ha⟩, HO⟩ Hk
  iapply (runs_sent m K d src dst s hN hj hs 32) $$ [Hc Ha HO]
  · isplitr; · iexact Hl
    isplitr; · iexact HR
    isplitl [Hc]; · iexact Hc
    isplitl [Ha] <;> iassumption
  iintro ⟨HP, Hv, HO⟩
  iapply Hk
  isplitr [HO]
  · isplitl [HP] <;> iassumption
  · iexact HO

def invA (d : Dev nD) (t : ℕ) : sProp 𝕄 :=
  iprop((bigSep (Finset.Ico t 8) (sentKit d)) ∗ (bigSep (Finset.Ico (8 + 2 * t) 24) (sentKit d))
    ∗ (bigSep (Finset.Ico 0 t) (backAt m d)) ∗ (bigSep (Finset.Ico 8 (8 + 2 * t)) (backAt m d)) ∗ Owes d 32)
def invB (d : Dev nD) (t : ℕ) : sProp 𝕄 :=
  iprop((bigSep (Finset.Ico (24 + t) 28) (sentKit d)) ∗ (bigSep (Finset.Ico (28 + t) 32) (sentKit d))
    ∗ (bigSep (Finset.Ico 24 (24 + t)) (backAt m d)) ∗ (bigSep (Finset.Ico 28 (28 + t)) (backAt m d)) ∗ Owes d 32)

theorem runs_sentA (d : Dev nD) {Q : PUnit → sProp 𝕄} (t : ℕ) (ht : t < 8) (k : PR F) :
    iprop(ctx m K ∗ invA m d t) ⊢ iprop((invA m d (t + 1) -∗ runs d k Q) -∗ runs d (sentA d t k) Q) := by
  have e := ck_lt ht
  unfold invA sentA
  rw [show 8 + 2 * (t + 1) = 8 + 2 * t + 1 + 1 by omega]
  iintro ⟨#Hc, HA, HB, HA', HB', HO⟩ Hk
  ihave HA := (pop ht (sentKit d)) $$ HA
  icases HA with ⟨HA1, HA⟩
  ihave HB := (pop (show 8 + 2 * t < 24 by omega) (sentKit d)) $$ HB
  icases HB with ⟨HB1, HB⟩
  ihave HB := (pop (show 8 + 2 * t + 1 < 24 by omega) (sentKit d)) $$ HB
  icases HB with ⟨HB2, HB⟩
  iapply (runs_sentStep m K d (peerC d t) (sbufC (ck t)) (1 + ck t) (credit_sbuf _) (j := t) (by omega)
    (by unfold sNum; rw [if_pos ht, e])) $$ [HA1 HO]
  · isplitr; · iexact Hc
    isplitl [HA1] <;> iassumption
  iintro ⟨HA1, HO⟩
  iapply (runs_sentStep m K d (peerC d t) (peerC d t) (17 + ck t) (credit_peer d t) (j := 8 + 2 * t) (by omega)
    (by unfold sNum; rw [if_neg (by omega), if_pos (by omega), if_pos (by omega), e]; omega)) $$ [HB1 HO]
  · isplitr; · iexact Hc
    isplitl [HB1] <;> iassumption
  iintro ⟨HB1, HO⟩
  iapply (runs_sentStep m K d (peerC d t) (peerC d t) (33 + ck t) (credit_peer d t) (j := 8 + 2 * t + 1) (by omega)
    (by unfold sNum; rw [if_neg (by omega), if_pos (by omega), if_neg (by omega), e]; omega)) $$ [HB2 HO]
  · isplitr; · iexact Hc
    isplitl [HB2] <;> iassumption
  iintro ⟨HB2, HO⟩
  iapply Hk
  isplitl [HA]; · iexact HA
  isplitl [HB]; · iexact HB
  isplitl [HA' HA1]
  · iapply (pushI (Nat.zero_le t) (backAt m d))
    isplitl [HA1] <;> iassumption
  isplitl [HB' HB1 HB2]
  · iapply (pushI (show 8 ≤ 8 + 2 * t + 1 by omega) (backAt m d))
    isplitl [HB2]; · iexact HB2
    iapply (pushI (show 8 ≤ 8 + 2 * t by omega) (backAt m d))
    isplitl [HB1] <;> iassumption
  iexact HO

theorem runs_sentB (d : Dev nD) {Q : PUnit → sProp 𝕄} (t : ℕ) (ht : t < 4) (k : PR F) :
    iprop(ctx m K ∗ invB m d t) ⊢ iprop((invB m d (t + 1) -∗ runs d k Q) -∗ runs d (sentB d t k) Q) := by
  unfold invB sentB
  iintro ⟨#Hc, HA, HB, HA', HB', HO⟩ Hk
  ihave HA := (pop (show 24 + t < 28 by omega) (sentKit d)) $$ HA
  icases HA with ⟨HA1, HA⟩
  ihave HB := (pop (show 28 + t < 32 by omega) (sentKit d)) $$ HB
  icases HB with ⟨HB1, HB⟩
  iapply (runs_sentStep m K d (peerC d (9 + 2 * t)) (peerC d (9 + 2 * t)) (49 + t) (credit_peer d _) (j := 24 + t) (by omega)
    (by unfold sNum; rw [if_neg (by omega), if_neg (by omega), if_pos (by omega)]; omega)) $$ [HA1 HO]
  · isplitr; · iexact Hc
    isplitl [HA1] <;> iassumption
  iintro ⟨HA1, HO⟩
  iapply (runs_sentStep m K d (peerC d (16 + 2 * t)) (peerC d (16 + 2 * t)) (57 + t) (credit_peer d _) (j := 28 + t) (by omega)
    (by unfold sNum; rw [if_neg (by omega), if_neg (by omega), if_neg (by omega)]; omega)) $$ [HB1 HO]
  · isplitr; · iexact Hc
    isplitl [HB1] <;> iassumption
  iintro ⟨HB1, HO⟩
  iapply Hk
  isplitl [HA]; · iexact HA
  isplitl [HB]; · iexact HB
  isplitl [HA' HA1]
  · iapply (pushI (show 24 ≤ 24 + t by omega) (backAt m d))
    isplitl [HA1] <;> iassumption
  isplitl [HB' HB1]
  · iapply (pushI (show 28 ≤ 28 + t by omega) (backAt m d))
    isplitl [HB1] <;> iassumption
  iexact HO

/-! ## The body after the barrier -/

/-- What device `d` holds once it has waited at the barrier. -/
def pre (d : Dev nD) : sProp 𝕄 :=
  iprop(sends d 0 ∗ (bigSep (Finset.range 32) (recvKit d)) ∗ (bigSep (Finset.range 32) fun j => atPos ER (scell d j) 0 ∅ 0)
    ∗ (bigSep (Finset.range 8) fun t => iprop((∃ f, sbufAt d t f) ∗ semVal (dcell d (65 + t)) 0)) ∗ (bigSep (Finset.range 32) (argsAt m d))
    ∗ inFree d 0 ∗ inFree d 1 ∗ outFree d 0 ∗ outFree d 1 ∗ (bigSep (Finset.range 32) (outAny d)) ∗ gamAt m d)
/-- What it holds at the end. -/
def post (d : Dev nD) : sProp 𝕄 :=
  iprop(Owes d 32 ∗ (bigSep (Finset.range 32) (doneAt m d)) ∗ (bigSep (Finset.range 32) (backAt m d))
    ∗ (bigSep (Finset.range 8) fun t => semVal (dcell d (65 + t)) 0) ∗ (bigSep (Finset.range 32) (argsAt m d))
    ∗ inFree d 0 ∗ inFree d 1 ∗ outFree d 0 ∗ outFree d 1 ∗ (bigSep (Finset.range 32) (outGot m d)) ∗ gamAt m d)

theorem args_cut (d : Dev nD) : bigSep (Finset.range 32) (argsAt m d)
    = iprop(((bigSep (Finset.Ico 0 8) fun t => partAt m d t fullShare) ∗ bigSep (Finset.Ico 8 32) fun t => partAt m d t fullShare) ∗ bigSep (Finset.range 32) (resAt m d)) := by
  rw [show (argsAt m d) = fun t => iprop(partAt m d t fullShare ∗ resAt m d t) from rfl, zip, Finset.range_eq_Ico, cut (show 0 ≤ 8 by decide) (show 8 ≤ 32 by decide)]

theorem range_Ico (n : ℕ) (Φ : ℕ → sProp 𝕄) : bigSep (Finset.range n) Φ = bigSep (Finset.Ico 0 n) Φ := by rw [Finset.range_eq_Ico]

/-- The part of the body up to the first step. -/
theorem runs_head {k : PR F} {Q : PUnit → sProp 𝕄} (d : Dev nD) :
    iprop(ctx m K ∗ pre m d)
      ⊢ iprop(((inv m d 0 ∗ (bigSep (Finset.range 32) fun j => atPos ER (scell d j) 0 ∅ 0) ∗ bigSep (Finset.range 8) fun t => semVal (dcell d (65 + t)) 0) -∗ runs d k Q)
        -∗ runs d (rep (stage d) 8 0 (rep (exch d) 8 0 (stageIn d 0 k))) Q) := by
  have h0 : iprop((bigSep (Finset.Ico 0 8) fun t => partAt m d t fullShare) ∗ (bigSep (Finset.range 8) fun t => iprop((∃ f, sbufAt d t f) ∗ semVal (dcell d (65 + t)) 0)))
      ⊢ invS m d 0 := by
    unfold invS
    rw [range_Ico 8, show (stageKit m d) = fun t => iprop(partAt m d t fullShare ∗ ((∃ f, sbufAt d t f) ∗ semVal (dcell d (65 + t)) 0)) from rfl,
      zip _ (fun t => partAt m d t fullShare)]
    iintro ⟨H1, H2⟩
    isplitl [H1 H2]
    · isplitl [H1] <;> iassumption
    · rw [Finset.range_zero, bigSep_empty]; iempintro
  have h1 : iprop(invS m d 8 ∗ sends d 0) ⊢ invE m d 0 := by
    unfold invS invE
    rw [range_Ico 8, Finset.range_zero, bigSep_empty]
    iintro ⟨⟨-, H⟩, HS⟩
    isplitl [H]; · iexact H
    isplitr; · iempintro
    iexact HS
  have h2 : invE m d 8 ⊢ iprop((bigSep (Finset.Ico 0 8) fun t => partAt m d t fullShare) ∗ (bigSep (Finset.range 8) fun t => semVal (dcell d (65 + t)) 0) ∗ sends d 8) := by
    unfold invE
    rw [show (stageDone m d) = fun t => iprop(partAt m d t fullShare ∗ semVal (dcell d (65 + t)) 0) from rfl, zip, range_Ico 8]
    iintro ⟨-, ⟨H1, H2⟩, H3⟩
    isplitl [H1]; · iexact H1
    isplitl [H2] <;> iassumption
  have h3 : iprop(sends d 8 ∗ (bigSep (Finset.range 32) (recvKit d)) ∗ (bigSep (Finset.Ico 1 32) (argsAt m d)) ∗ inFill m d 0 ∗ inFree d 1
      ∗ outFree d 0 ∗ outFree d 1 ∗ (bigSep (Finset.range 32) (outAny d)) ∗ gamAt m d) ⊢ inv m d 0 := by
    unfold inv inF outF
    rw [if_pos (show 0 < 32 by decide), if_neg (show ¬2 ≤ 0 by decide), if_neg (show ¬2 ≤ 0 + 1 by decide), range_Ico 32, range_Ico 32]
    iintro ⟨HS, HR, HA, HF, HI', HO, HO', HT, Hg⟩
    isplitl [HS]; · iexact HS
    isplitl [HR]; · iexact HR
    isplitr; · rw [Finset.range_zero, bigSep_empty]; iempintro
    isplitl [HA]; · iexact HA
    isplitr; · rw [Finset.range_zero, bigSep_empty]; iempintro
    isplitl [HF]; · iexact HF
    isplitl [HI']; · iexact HI'
    isplitl [HO]; · iexact HO
    isplitl [HO']; · iexact HO'
    isplitl [HT]; · iexact HT
    isplitr; · rw [Nat.zero_sub, Finset.range_zero, bigSep_empty]; iempintro
    iexact Hg
  unfold pre
  rw [args_cut]
  iintro ⟨#Hc, HS, HR, Hat, Hst, ⟨⟨HP, HP'⟩, HRs⟩, HI, HI', HO, HO', HT, Hg⟩ Hk
  ihave H := h0 $$ [HP Hst]
  · isplitl [HP] <;> iassumption
  iapply (runs_rep m K d (stage d) (invS m d) 8 (fun t ht k => runs_stageStep m K d t ht k) _ 8 0 (by decide)) $$ [H]
  · isplitr; · iexact Hc
    iexact H
  iintro H
  ihave H := h1 $$ [H HS]
  · isplitl [H]; · iexact H
    iexact HS
  iapply (runs_rep m K d (exch d) (invE m d) 8 (fun t ht k => runs_exchStep m K d t ht k) _ 8 0 (by decide)) $$ [H]
  · isplitr; · iexact Hc
    iexact H
  iintro H
  ihave H := h2 $$ H
  icases H with ⟨HP, Hv, HS⟩
  ihave HA := (show iprop(((bigSep (Finset.Ico 0 8) fun t => partAt m d t fullShare) ∗ bigSep (Finset.Ico 8 32) fun t => partAt m d t fullShare) ∗ bigSep (Finset.range 32) (resAt m d))
    ⊢ iprop(argsAt m d 0 ∗ bigSep (Finset.Ico 1 32) (argsAt m d)) by rw [← args_cut, range_Ico]; exact pop (by decide) _) $$ [HP HP' HRs]
  · isplitr [HRs]
    · isplitl [HP] <;> iassumption
    · iexact HRs
  icases HA with ⟨HA1, HA⟩
  unfold argsAt inFree
  icases HA1 with ⟨HA1, HA2⟩
  icases HI with ⟨⟨%f, H1⟩, ⟨%g, H2⟩, H3, H4⟩
  iapply (runs_stageIn m d (show 0 < 32 by decide) f g) $$ [HA1 HA2 H1 H2 H3 H4]
  · isplitl [HA1]; · iexact HA1
    isplitl [HA2]; · iexact HA2
    isplitl [H1]; · iexact H1
    isplitl [H2]; · iexact H2
    isplitl [H3] <;> iassumption
  iintro HF
  iapply Hk
  isplitr [Hat Hv]
  · iapply h3
    isplitl [HS]; · iexact HS
    isplitl [HR]; · iexact HR
    isplitl [HA]; · unfold argsAt; iexact HA
    isplitl [HF]; · unfold inFill; iexact HF
    isplitl [HI']; · unfold inFree; iexact HI'
    isplitl [HO]; · iexact HO
    isplitl [HO']; · iexact HO'
    isplitl [HT]; · iexact HT
    iexact Hg
  · isplitl [Hat] <;> iassumption

/-- The part of the body after the last step. -/
theorem runs_tail {k : PR F} {Q : PUnit → sProp 𝕄} (d : Dev nD) :
    iprop(ctx m K ∗ inv m d 32 ∗ (bigSep (Finset.range 32) fun j => atPos ER (scell d j) 0 ∅ 0) ∗ bigSep (Finset.range 8) fun t => semVal (dcell d (65 + t)) 0)
      ⊢ iprop((post m d -∗ runs d k Q)
        -∗ runs d (outWait d 30 (outWait d 31 (rep (sentA d) 8 0 (rep (sentB d) 4 0 k)))) Q) := by
  have hA : iprop((bigSep (Finset.range 32) (sentCred d)) ∗ (bigSep (Finset.range 32) fun j => atPos ER (scell d j) 0 ∅ 0) ∗ Owes d 32)
      ⊢ iprop(invA m d 0 ∗ (bigSep (Finset.Ico 24 28) (sentKit d)) ∗ bigSep (Finset.Ico 28 32) (sentKit d)) := by
    unfold invA
    have e : iprop((bigSep (Finset.range 32) (sentCred d)) ∗ bigSep (Finset.range 32) fun j => atPos ER (scell d j) 0 ∅ 0)
        = (iprop((bigSep (Finset.Ico 0 8) (sentKit d)) ∗ (bigSep (Finset.Ico 8 24) (sentKit d)) ∗ (bigSep (Finset.Ico 24 28) (sentKit d)) ∗ bigSep (Finset.Ico 28 32) (sentKit d)) : sProp 𝕄) := by
      rw [← zip, range_Ico, ← cut (show 24 ≤ 28 by decide) (show 28 ≤ 32 by decide), ← cut (show 8 ≤ 24 by decide) (show 24 ≤ 32 by decide),
        ← cut (show 0 ≤ 8 by decide) (show 8 ≤ 32 by decide)]
      rfl
    have e' : iprop((bigSep (Finset.range 32) (sentCred d)) ∗ bigSep (Finset.range 32) fun j => atPos ER (scell d j) 0 ∅ 0)
        ⊢ (iprop((bigSep (Finset.Ico 0 8) (sentKit d)) ∗ (bigSep (Finset.Ico 8 24) (sentKit d)) ∗ (bigSep (Finset.Ico 24 28) (sentKit d)) ∗ bigSep (Finset.Ico 28 32) (sentKit d)) : sProp 𝕄) := by
      rw [e]
    iintro ⟨H1, H2, HO⟩
    ihave H := e' $$ [H1 H2]
    · isplitl [H1] <;> iassumption
    icases H with ⟨H1, H2, H3, H4⟩
    isplitl [H1 H2 HO]
    · isplitl [H1]; · iexact H1
      isplitl [H2]; · iexact H2
      rw [Finset.Ico_self, Finset.Ico_self, bigSep_empty]
      isplitr; · iempintro
      isplitr; · iempintro
      iexact HO
    · isplitl [H3] <;> iassumption
  have hB : iprop(invA m d 8 ∗ (bigSep (Finset.Ico 24 28) (sentKit d)) ∗ bigSep (Finset.Ico 28 32) (sentKit d))
      ⊢ iprop(((bigSep (Finset.Ico 0 8) (backAt m d)) ∗ bigSep (Finset.Ico 8 24) (backAt m d)) ∗ invB m d 0) := by
    unfold invA invB
    iintro ⟨⟨-, -, H1, H2, HO⟩, H3, H4⟩
    isplitl [H1 H2]
    · isplitl [H1] <;> iassumption
    isplitl [H3]; · iexact H3
    isplitl [H4]; · iexact H4
    rw [Finset.Ico_self, Finset.Ico_self, bigSep_empty]
    isplitr; · iempintro
    isplitr; · iempintro
    iexact HO
  have hC : iprop(((bigSep (Finset.Ico 0 8) (backAt m d)) ∗ bigSep (Finset.Ico 8 24) (backAt m d)) ∗ invB m d 4)
      ⊢ iprop((bigSep (Finset.range 32) (backAt m d)) ∗ Owes d 32) := by
    unfold invB
    have e' : (iprop((bigSep (Finset.Ico 0 8) (backAt m d)) ∗ (bigSep (Finset.Ico 8 24) (backAt m d)) ∗ (bigSep (Finset.Ico 24 28) (backAt m d)) ∗ bigSep (Finset.Ico 28 32) (backAt m d)) : sProp 𝕄)
        ⊢ bigSep (Finset.range 32) (backAt m d) := by
      rw [range_Ico, ← cut (show 24 ≤ 28 by decide) (show 28 ≤ 32 by decide), ← cut (show 8 ≤ 24 by decide) (show 24 ≤ 32 by decide),
        ← cut (show 0 ≤ 8 by decide) (show 8 ≤ 32 by decide)]
    iintro ⟨⟨H1, H2⟩, -, -, H3, H4, HO⟩
    isplitr [HO]
    · iapply e'
      isplitl [H1]; · iexact H1
      isplitl [H2]; · iexact H2
      isplitl [H3] <;> iassumption
    · iexact HO
  have w30 := fun (k : PR F) => runs_outPrev (k := k) (Q := Q) m K d 32 32
  have w31 := fun (k : PR F) => runs_outPrev (k := k) (Q := Q) m K d 33 32
  unfold inv post sends inF
  rw [if_neg (show ¬32 < 32 by decide)]
  iintro ⟨#Hc, ⟨⟨HO, -, HC⟩, -, HD, -, HA, HI, HI', HF, HF', -, HG, Hg⟩, Hat, Hv⟩ Hk
  iapply (w30 _) $$ [HF HG HO]
  · isplitr; · iexact Hc
    isplitl [HF]; · iexact HF
    isplitl [HG]; · iexact HG
    iexact HO
  iintro ⟨HB, Hv1, HG, HO⟩
  iapply (w31 _) $$ [HF' HG HO]
  · isplitr; · iexact Hc
    isplitl [HF']; · iexact HF'
    isplitl [HG] <;> iassumption
  iintro ⟨HB', Hv2, HG, HO⟩
  ihave H := hA $$ [HC Hat HO]
  · isplitl [HC]; · iexact HC
    isplitl [Hat] <;> iassumption
  icases H with ⟨H, H2⟩
  iapply (runs_rep m K d (sentA d) (invA m d) 8 (fun t ht k => runs_sentA m K d t ht k) _ 8 0 (by decide)) $$ [H]
  · isplitr; · iexact Hc
    iexact H
  iintro H
  ihave H := hB $$ [H H2]
  · isplitl [H]; · iexact H
    iexact H2
  icases H with ⟨H2, H⟩
  iapply (runs_rep m K d (sentB d) (invB m d) 4 (fun t ht k => runs_sentB m K d t ht k) _ 4 0 (by decide)) $$ [H]
  · isplitr; · iexact Hc
    iexact H
  iintro H
  ihave H := hC $$ [H H2]
  · isplitl [H2]; · iexact H2
    iexact H
  icases H with ⟨HK, HO⟩
  iapply Hk
  isplitl [HO]; · iexact HO
  isplitl [HD]; · iexact HD
  isplitl [HK]; · iexact HK
  isplitl [Hv]; · iexact Hv
  isplitl [HA]; · iexact HA
  isplitl [HI]; · iexact HI
  isplitl [HI']; · iexact HI'
  isplitl [HB Hv1]
  · unfold outFree
    isplitl [HB]; · iexact HB
    iexact Hv1
  isplitl [HB' Hv2]
  · unfold outFree
    isplitl [HB']; · iexact HB'
    iexact Hv2
  isplitl [HG] <;> iassumption

/-- The body after the barrier. -/
theorem runs_body {k : PR F} {Q : PUnit → sProp 𝕄} (d : Dev nD) :
    iprop(ctx m K ∗ pre m d)
      ⊢ iprop((post m d -∗ runs d k Q)
        -∗ runs d (rep (stage d) 8 0 <| rep (exch d) 8 0 <| stageIn d 0 <| rep (step d) 32 0 <|
          outWait d 30 <| outWait d 31 <| rep (sentA d) 8 0 <| rep (sentB d) 4 0 k) Q) := by
  iintro ⟨#Hc, HP⟩ Hk
  iapply (runs_head m K d) $$ [HP]
  · isplitr; · iexact Hc
    iexact HP
  iintro ⟨HI, Hat, Hv⟩
  iapply (runs_rep m K d (step d) (inv m d) 32 (fun t ht k => runs_step m K d ht) _ 32 0 (by decide)) $$ [HI]
  · isplitr; · iexact Hc
    iexact HI
  iintro HI
  iapply (runs_tail m K d) $$ [HI Hat Hv]
  · isplitr; · iexact Hc
    isplitl [HI]; · iexact HI
    isplitl [Hat] <;> iassumption
  iexact Hk

end Cert.AllReduce

end
-- ==== Proof.Ends.lean ====
/-
What the launch hands a device, cut into what its body uses, and what the body leaves, put together again.
-/
module

public import proofs.«01_k».proof.Proof.Body

@[expose] public section

noncomputable section

namespace Cert.AllReduce

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## Whole arrays and their chunks -/

theorem some_of {α : Type} (Φ : α → sProp 𝕄) (a : α) : Φ a ⊢ iprop(∃ x, Φ x) := by
  iintro H; iexists a; iexact H

section Whole
variable (d : Dev nD)

theorem whole (ℓ : Loc nD τ sig) (S : Finset ℕ) (A : ℕ → Finset (Idx ℓ)) (hd : ∀ t ∈ S, ∀ t' ∈ S, t ≠ t' → Disjoint (A t) (A t'))
    (hu : S.biUnion A = Finset.univ) (f : Buf (Elt F) ℓ) : (ℓ ↦{fullShare} f : sProp 𝕄) = bigSep S fun t => ℓ ↦[A t]{fullShare} f := by
  rw [← pointsTo_biUnion S A hd, hu]

theorem part_whole : (((d : Thread nD τ).loc main_arg0) ↦{fullShare} argP m d : sProp 𝕄) = bigSep (Finset.range 32) fun t => partAt m d t fullShare :=
  whole ((d : Thread nD τ).loc main_arg0) (Finset.range 32) (fun t => pset (ord d t))
    (fun t h t' h' hne => pset_disj (ord_ne d (Finset.mem_range.1 h) (Finset.mem_range.1 h') hne)) (pset_cover d) _
theorem res_whole : (((d : Thread nD τ).loc main_arg1) ↦{fullShare} argR m d : sProp 𝕄) = bigSep (Finset.range 32) fun t => resAt m d t :=
  whole ((d : Thread nD τ).loc main_arg1) (Finset.range 32) (fun t => rset (ord d t))
    (fun t h t' h' hne => rset_disj (ord_ne d (Finset.mem_range.1 h) (Finset.mem_range.1 h') hne)) (rset_cover d) _
theorem out_whole (f : S2048x2048.Idx → Elt F .f32) :
    (((d : Thread nD τ).loc main_v1) ↦{fullShare} f : sProp 𝕄) = bigSep (Finset.range 32) fun t => outAt d t f :=
  whole ((d : Thread nD τ).loc main_v1) (Finset.range 32) (fun t => rset (ord d t))
    (fun t h t' h' hne => rset_disj (ord_ne d (Finset.mem_range.1 h) (Finset.mem_range.1 h') hne)) (rset_cover d) _
theorem peer_whole (f : S2048x2048.Idx → Elt F .f32) :
    (((d : Thread nD τ).loc cc0_scratch0) ↦{fullShare} f : sProp 𝕄) = bigSep (Finset.range 32) fun t => peerAt d (ord d t) fullShare f :=
  whole ((d : Thread nD τ).loc cc0_scratch0) (Finset.range 32) (fun t => rset (ord d t))
    (fun t h t' h' hne => rset_disj (ord_ne d (Finset.mem_range.1 h) (Finset.mem_range.1 h') hne)) (rset_cover d) _
theorem sbuf_whole (f : S512x2048.Idx → Elt F .f32) :
    (((d : Thread nD τ).loc cc0_scratch1) ↦{fullShare} f : sProp 𝕄) = bigSep (Finset.range 8) fun r => sbufAt d r f :=
  whole ((d : Thread nD τ).loc cc0_scratch1) (Finset.range 8) qset (fun t _ t' _ hne => qset_disj hne) qset_cover _

theorem slots_split (ℓ : Loc nD τ sig) (A B : Finset (Idx ℓ)) (hd : Disjoint A B) (hu : A ∪ B = Finset.univ) :
    (iprop(∃ f, ℓ ↦{fullShare} f) : sProp 𝕄) ⊢ iprop((∃ f, ℓ ↦[A]{fullShare} f) ∗ ∃ f, ℓ ↦[B]{fullShare} f) := by
  iintro ⟨%f, H⟩
  rw [← hu]
  ihave H := (pointsTo_union hd).1 $$ H
  icases H with ⟨H1, H2⟩
  isplitl [H1]
  · iexists f; iexact H1
  · iexists f; iexact H2
theorem slots_join (ℓ : Loc nD τ sig) (A B : Finset (Idx ℓ)) (hd : Disjoint A B) (hu : A ∪ B = Finset.univ) :
    iprop((∃ f, ℓ ↦[A]{fullShare} f) ∗ ∃ f, ℓ ↦[B]{fullShare} f) ⊢ (iprop(∃ f, ℓ ↦{fullShare} f) : sProp 𝕄) := by
  iintro ⟨⟨%f, H1⟩, ⟨%g, H2⟩⟩
  iexists (B.piecewise g f)
  rw [← hu]
  iapply (pointsTo_join hd)
  isplitl [H1] <;> iassumption

theorem bset_union : bset 0 ∪ bset 1 = Finset.univ := by
  ext p
  have hp : (p 0).val < 2 := (p 0).isLt
  simp only [Finset.mem_union, Finset.mem_univ, iff_true, mem_bset]
  omega

theorem in_split : (iprop((∃ f : Buf (Elt F) ((d : Thread nD τ).loc cc0_scratch2), ((d : Thread nD τ).loc cc0_scratch2) ↦{fullShare} f)
      ∗ (∃ f : Buf (Elt F) ((d : Thread nD τ).loc cc0_scratch3), ((d : Thread nD τ).loc cc0_scratch3) ↦{fullShare} f)
      ∗ ∃ f : Buf (Elt F) ((d : Thread nD τ).loc cc0_scratch4), ((d : Thread nD τ).loc cc0_scratch4) ↦{fullShare} f) : sProp 𝕄)
    ⊢ iprop(((∃ f, pbufAt d 0 f) ∗ ∃ f, pbufAt d 1 f) ∗ ((∃ f, rbufAt d 0 f) ∗ ∃ f, rbufAt d 1 f) ∗ ((∃ f, obufAt d 0 f) ∗ ∃ f, obufAt d 1 f)) := by
  unfold pbufAt rbufAt obufAt
  exact Idealize.SL.BI.BIClass.sep_mono (slots_split ((d : Thread nD τ).loc cc0_scratch2) (bset 0) (bset 1) (bset_disj (by decide)) bset_union)
    (Idealize.SL.BI.BIClass.sep_mono (slots_split ((d : Thread nD τ).loc cc0_scratch3) (bset 0) (bset 1) (bset_disj (by decide)) bset_union) (slots_split ((d : Thread nD τ).loc cc0_scratch4) (bset 0) (bset 1) (bset_disj (by decide)) bset_union))
theorem in_join : iprop(((∃ f, pbufAt d 0 f) ∗ ∃ f, pbufAt d 1 f) ∗ ((∃ f, rbufAt d 0 f) ∗ ∃ f, rbufAt d 1 f) ∗ ((∃ f, obufAt d 0 f) ∗ ∃ f, obufAt d 1 f))
    ⊢ (iprop((∃ f : Buf (Elt F) ((d : Thread nD τ).loc cc0_scratch2), ((d : Thread nD τ).loc cc0_scratch2) ↦{fullShare} f)
      ∗ (∃ f : Buf (Elt F) ((d : Thread nD τ).loc cc0_scratch3), ((d : Thread nD τ).loc cc0_scratch3) ↦{fullShare} f)
      ∗ ∃ f : Buf (Elt F) ((d : Thread nD τ).loc cc0_scratch4), ((d : Thread nD τ).loc cc0_scratch4) ↦{fullShare} f) : sProp 𝕄) := by
  unfold pbufAt rbufAt obufAt
  exact Idealize.SL.BI.BIClass.sep_mono (slots_join ((d : Thread nD τ).loc cc0_scratch2) (bset 0) (bset 1) (bset_disj (by decide)) bset_union)
    (Idealize.SL.BI.BIClass.sep_mono (slots_join ((d : Thread nD τ).loc cc0_scratch3) (bset 0) (bset 1) (bset_disj (by decide)) bset_union) (slots_join ((d : Thread nD τ).loc cc0_scratch4) (bset 0) (bset 1) (bset_disj (by decide)) bset_union))
end Whole

/-! ## Runs over the copies and over the semaphores -/

/-- The copies by direction. -/
theorem dirs (Φ : ℕ → sProp 𝕄) : bigSep (Finset.range 32) Φ
    = bigSep Finset.univ fun a : Fin 3 => bigSep ((Finset.range 32).filter fun j => dir j = a) Φ := by
  have h : (Finset.range 32) = Finset.univ.biUnion (fun a : Fin 3 => (Finset.range 32).filter fun j => dir j = a) := by ext j; simp
  conv_lhs => rw [h]
  rw [bigSep_parts]
  intro a _ b _ hab
  exact Finset.disjoint_left.mpr fun j hj hj' => hab ((Finset.mem_filter.1 hj).2.symm.trans (Finset.mem_filter.1 hj').2)

theorem pool_cover : Finset.Ico 1 65 = (Finset.range 32).biUnion fun j => {sNum j, rNum j} := by decide +kernel
theorem pool_disj : ∀ a ∈ Finset.range 32, ∀ b ∈ Finset.range 32, a ≠ b → Disjoint ({sNum a, rNum a} : Finset ℕ) {sNum b, rNum b} := by
  intro a ha b hb hab
  have ha := Finset.mem_range.1 ha
  have hb := Finset.mem_range.1 hb
  have h1 := sNum_inj ⟨a, ha⟩ ⟨b, hb⟩
  have h2 := rNum_inj ⟨a, ha⟩ ⟨b, hb⟩
  have h3 := sNum_ne_rNum ⟨a, ha⟩ ⟨b, hb⟩
  have h4 := sNum_ne_rNum ⟨b, hb⟩ ⟨a, ha⟩
  simp only [Fin.mk.injEq] at h1 h2 h3 h4
  rw [Finset.disjoint_left]
  intro x hx hy
  simp only [Finset.mem_insert, Finset.mem_singleton] at hx hy
  rcases hx with rfl | rfl <;> rcases hy with h | h
  · exact hab (h1 h)
  · exact h3 h
  · exact h4 h.symm
  · exact hab (h2 h)

/-- The sixty-four send and receive semaphores, copy by copy. -/
theorem pool (Φ : ℕ → sProp 𝕄) : bigSep (Finset.Ico 1 65) Φ
    = iprop((bigSep (Finset.range 32) fun j => Φ (sNum j)) ∗ bigSep (Finset.range 32) fun j => Φ (rNum j)) := by
  rw [pool_cover, bigSep_parts _ _ pool_disj, ← zip]
  refine bigSep_congr fun j hj => ?_
  have h3 := sNum_ne_rNum ⟨j, Finset.mem_range.1 hj⟩ ⟨j, Finset.mem_range.1 hj⟩
  rw [bigSep_insert (by rw [Finset.mem_singleton]; exact h3), bigSep_singleton]
  rfl

/-- The semaphores of the local copies: staging, the two slots' inputs and outputs. -/
def locals (d : Dev nD) : sProp 𝕄 := bigSep (Finset.range 14) fun i => semVal (dcell d (65 + i)) 0
theorem locals_eq (d : Dev nD) : (locals d : sProp 𝕄)
    = iprop(semVal (dcell d (77 + 1 % 2)) 0 ∗ semVal (dcell d (77 + 0 % 2)) 0 ∗ semVal (dcell d (75 + 1 % 2)) 0 ∗ semVal (dcell d (75 + 0 % 2)) 0
      ∗ semVal (dcell d (73 + 1 % 2)) 0 ∗ semVal (dcell d (73 + 0 % 2)) 0 ∗ bigSep (Finset.range 8) fun t => semVal (dcell d (65 + t)) 0) := by
  unfold locals
  rw [bigSep_range_succ, bigSep_range_succ, bigSep_range_succ, bigSep_range_succ, bigSep_range_succ, bigSep_range_succ]

/-! ## From the launch's holdings to the body's -/

/-- The tokens a device pays with: at the neighbours' barriers, at its own send cells, at the receive cells its copies land on. -/
def tokB (d : Dev nD) : sProp 𝕄 := bigSep Finset.univ fun a : Fin 3 => dutyTok ER (barCell (peer a d)) 0 a
def tokS (d : Dev nD) : sProp 𝕄 := bigSep (Finset.range 32) fun j => dutyTok ER (scell d j) 0 0
def tokR (d : Dev nD) : sProp 𝕄 := bigSep (Finset.range 32) fun j => dutyTok ER (rcell (dest d j) j) 0 0
/-- Its positions at its cells. -/
def posS (d : Dev nD) : sProp 𝕄 := bigSep (Finset.range 32) fun j => atPos ER (scell d j) 0 ∅ 0
def posR (d : Dev nD) : sProp 𝕄 := bigSep (Finset.range 32) fun j => atPos ER (rcell d j) 0 ∅ 0
/-- The credit of what it receives. -/
def credR (d : Dev nD) : sProp 𝕄 := bigSep (Finset.range 32) fun j => cred (tallyAt (rcell d j) () N)
/-- The rows its copies write. -/
def rowsTo (d : Dev nD) : sProp 𝕄 := bigSep (Finset.range 32) fun j => iprop(∃ f, peerAt (dest d j) (ord (dest d j) j) fullShare f)
/-- Its arguments and its result array. -/
def args (d : Dev nD) : sProp 𝕄 :=
  iprop((((d : Thread nD τ).loc main_arg0) ↦{fullShare} argP m d) ∗ (((d : Thread nD τ).loc main_arg1) ↦{fullShare} argR m d))
def bufs (d : Dev nD) : sProp 𝕄 :=
  iprop((∃ f : Buf (Elt F) ((d : Thread nD τ).loc cc0_scratch1), ((d : Thread nD τ).loc cc0_scratch1) ↦{fullShare} f)
      ∗ (∃ f : Buf (Elt F) ((d : Thread nD τ).loc cc0_scratch2), ((d : Thread nD τ).loc cc0_scratch2) ↦{fullShare} f)
      ∗ (∃ f : Buf (Elt F) ((d : Thread nD τ).loc cc0_scratch3), ((d : Thread nD τ).loc cc0_scratch3) ↦{fullShare} f)
      ∗ ∃ f : Buf (Elt F) ((d : Thread nD τ).loc cc0_scratch4), ((d : Thread nD τ).loc cc0_scratch4) ↦{fullShare} f)
def landing (d : Dev nD) : sProp 𝕄 :=
  iprop(∃ f : Buf (Elt F) ((d : Thread nD τ).loc cc0_scratch0), ((d : Thread nD τ).loc cc0_scratch0) ↦{fullShare} f)

/-- Its landing buffer goes, by direction, to the neighbours. -/
theorem give (d : Dev nD) : landing (F := F) d ⊢ bigSep Finset.univ fun a : Fin 3 => barPay (peer a d) a := by
  have h : (bigSep Finset.univ fun a : Fin 3 => barPay (F := F) (peer a d) a)
      = bigSep (Finset.range 32) fun j => iprop(∃ f, peerAt d (ord d j) fullShare f) := by
    rw [dirs]
    unfold barPay
    refine bigSep_congr fun a _ => bigSep_congr fun j _ => ?_
    rw [peer_peer]
  rw [h]
  unfold landing
  iintro ⟨%f, H⟩
  have hw : ((((d : Thread nD τ).loc cc0_scratch0) ↦{fullShare} f : sProp 𝕄)) ⊢ bigSep (Finset.range 32) fun j => iprop(∃ f, peerAt d (ord d j) fullShare f) := by
    rw [peer_whole d f]
    exact bigSep_mono fun j _ => some_of (fun g => peerAt d (ord d j) fullShare g) f
  iapply hw
  iexact H

theorem args_eq (d : Dev nD) : args m d = bigSep (Finset.range 32) (argsAt m d) := by
  unfold args argsAt
  rw [part_whole, res_whole, ← zip]
theorem kits (d : Dev nD) : iprop(tokS (F := F) d ∗ tokR d ∗ rowsTo d) = bigSep (Finset.Ico 0 32) (sendKit d) := by
  unfold tokS tokR rowsTo sendKit
  rw [← zip, ← zip, Finset.range_eq_Ico]
theorem recvs (d : Dev nD) : iprop(credR (F := F) d ∗ posR d) = bigSep (Finset.range 32) (recvKit d) := by
  unfold credR posR recvKit
  rw [← zip]
theorem stages (d : Dev nD) : (iprop(∃ f : Buf (Elt F) ((d : Thread nD τ).loc cc0_scratch1), ((d : Thread nD τ).loc cc0_scratch1) ↦{fullShare} f) : sProp 𝕄)
    ⊢ bigSep (Finset.range 8) fun t => iprop(∃ f, sbufAt d t f) := by
  iintro ⟨%f, H⟩
  have hw : ((((d : Thread nD τ).loc cc0_scratch1) ↦{fullShare} f : sProp 𝕄)) ⊢ bigSep (Finset.range 8) fun t => iprop(∃ f, sbufAt d t f) := by
    rw [sbuf_whole d f]
    exact bigSep_mono fun j _ => some_of (fun g => sbufAt d j g) f
  iapply hw
  iexact H
theorem outs (d : Dev nD) (f : S2048x2048.Idx → Elt F .f32) :
    (((d : Thread nD τ).loc main_v1) ↦{fullShare} f : sProp 𝕄) ⊢ bigSep (Finset.range 32) (outAny d) := by
  rw [out_whole d f]
  unfold outAny
  exact bigSep_mono fun j _ => some_of (fun g => outAt d j g) f
theorem none_sent (d : Dev nD) : (iprop(emp) : sProp 𝕄) ⊢ bigSep (Finset.range 0) (sentCred d) := by
  rw [Finset.range_zero, bigSep_empty]
  exact BIBase.Entails.rfl
theorem stages_zip (d : Dev nD) : iprop((bigSep (Finset.range 8) fun t => iprop(∃ f, sbufAt (F := F) d t f)) ∗ bigSep (Finset.range 8) fun t => semVal (dcell d (65 + t)) 0)
    ⊢ bigSep (Finset.range 8) fun t => iprop((∃ f, sbufAt d t f) ∗ semVal (dcell d (65 + t)) 0) := by
  rw [zip]

/-- What the body needs once the barrier is passed. -/
theorem pre_intro (d : Dev nD) (f : S2048x2048.Idx → Elt F .f32) :
    iprop(Owes d 0 ∗ (tokS d ∗ tokR d ∗ rowsTo d) ∗ (credR d ∗ posR d) ∗ posS d ∗ locals d ∗ bufs d ∗ args m d
      ∗ (((d : Thread nD τ).loc main_v1) ↦{fullShare} f) ∗ gamAt m d) ⊢ pre m d := by
  rw [kits, recvs, args_eq, locals_eq]
  unfold pre sends posS bufs inFree outFree
  iintro ⟨HO, HK, HR, HS, ⟨Hl1, Hl2, Hl3, Hl4, Hl5, Hl6, Hl⟩, ⟨Hb1, Hb⟩, HA, Ho, Hg⟩
  ihave Hb := (in_split (F := F) d) $$ Hb
  icases Hb with ⟨⟨Hp0, Hp1⟩, ⟨Hr0, Hr1⟩, ⟨Ho0, Ho1⟩⟩
  ihave Hb1 := (stages (F := F) d) $$ Hb1
  ihave Ho := (outs (F := F) d f) $$ Ho
  isplitl [HO HK]
  · isplitl [HO]; · iexact HO
    isplitl [HK]; · iexact HK
    iapply (none_sent (F := F) d); iempintro
  isplitl [HR]; · iexact HR
  isplitl [HS]; · iexact HS
  isplitl [Hb1 Hl]
  · iapply (stages_zip (F := F) d)
    isplitl [Hb1] <;> iassumption
  isplitl [HA]; · iexact HA
  isplitl [Hp0 Hr0 Hl6 Hl4]
  · isplitl [Hp0]; · iexact Hp0
    isplitl [Hr0]; · iexact Hr0
    isplitl [Hl6] <;> iassumption
  isplitl [Hp1 Hr1 Hl5 Hl3]
  · isplitl [Hp1]; · iexact Hp1
    isplitl [Hr1]; · iexact Hr1
    isplitl [Hl5] <;> iassumption
  isplitl [Ho0 Hl2]
  · isplitl [Ho0] <;> iassumption
  isplitl [Ho1 Hl1]
  · isplitl [Ho1] <;> iassumption
  isplitl [Ho]; · iexact Ho
  iexact Hg

/-! ## From the body's holdings back to whole buffers -/

theorem fib_cover : Finset.Ico 8 32 = (Finset.range 32).biUnion fib := by decide +kernel
theorem fib_disj : ∀ a ∈ Finset.range 32, ∀ b ∈ Finset.range 32, a ≠ b → Disjoint (fib a) (fib b) := by
  intro a _ b _ hab
  exact Finset.disjoint_left.mpr fun j hj hj' => hab ((Finset.mem_filter.1 hj).2.symm.trans (Finset.mem_filter.1 hj').2)

/-- The landing buffer whole again. -/
theorem landing_back (d : Dev nD) :
    iprop((bigSep (Finset.range 32) (kept m d)) ∗ (bigSep (Finset.range 32) (spare m d)) ∗ bigSep (Finset.Ico 8 32) (backPay m d))
      ⊢ ((((d : Thread nD τ).loc cc0_scratch0) ↦{fullShare} peerFull m d : sProp 𝕄)) := by
  rw [fib_cover, bigSep_parts _ _ fib_disj, peer_whole d (peerFull m d)]
  have h1 : (bigSep (Finset.range 32) fun t => iprop(kept m d t ∗ lent m d t)) ⊢ bigSep (Finset.range 32) fun t => peerAt d (ord d t) fullShare (peerFull m d) :=
    bigSep_mono fun t ht => (land_split m d (Finset.mem_range.1 ht)).2
  have h2 : (bigSep (Finset.range 32) fun t => iprop(kept m d t ∗ lent m d t))
      = iprop((bigSep (Finset.range 32) (kept m d)) ∗ (bigSep (Finset.range 32) fun t => bigSep (fib t) (backPay m d)) ∗ bigSep (Finset.range 32) (spare m d)) := by
    unfold lent
    rw [zip, zip]
  rw [h2] at h1
  refine BIBase.Entails.trans ?_ h1
  iintro ⟨H1, H2, H3⟩
  isplitl [H1]; · iexact H1
  isplitl [H3] <;> iassumption
theorem sbuf_back (d : Dev nD) : bigSep (Finset.Ico 0 8) (backPay m d) ⊢ ((((d : Thread nD τ).loc cc0_scratch1) ↦{fullShare} sbufG m d : sProp 𝕄)) := by
  rw [sbuf_whole d (sbufG m d), ← Finset.range_eq_Ico]
  refine bigSep_mono fun j hj => ?_
  unfold backPay
  rw [if_pos (Finset.mem_range.1 hj)]
  exact BI.Entails.refl _
theorem back_eq (d : Dev nD) : bigSep (Finset.range 32) (backAt m d)
    = iprop((bigSep (Finset.Ico 0 8) (backPay m d) ∗ bigSep (Finset.Ico 8 32) (backPay m d)) ∗ bigSep (Finset.range 32) fun j => semVal (scell d j) 0) := by
  unfold backAt
  rw [zip, Finset.range_eq_Ico, cut (show 0 ≤ 8 by decide) (show 8 ≤ 32 by decide) (backPay m d)]
theorem done_eq (d : Dev nD) : bigSep (Finset.range 32) (doneAt m d)
    = iprop((bigSep (Finset.range 32) fun j => semVal (rcell d j) 0) ∗ (bigSep (Finset.range 32) (kept m d)) ∗ bigSep (Finset.range 32) (spare m d)) := by
  unfold doneAt
  rw [zip, zip]
theorem got_eq (d : Dev nD) : bigSep (Finset.range 32) (outGot m d) = (((d : Thread nD τ).loc main_v1) ↦{fullShare} outFull m d : sProp 𝕄) := by
  rw [out_whole d (outFull m d)]
  rfl

/-- What the body leaves. -/
theorem post_elim (d : Dev nD) : post m d ⊢ iprop(Owes d 32 ∗ (bigSep (Finset.Ico 1 65) fun n => semVal (dcell d n) 0) ∗ locals d ∗ landing d ∗ bufs d
    ∗ args m d ∗ (((d : Thread nD τ).loc main_v1) ↦{fullShare} outFull m d) ∗ gamAt m d) := by
  unfold post
  rw [back_eq, done_eq, got_eq, args_eq, locals_eq, pool]
  unfold inFree outFree landing bufs
  iintro ⟨HO, ⟨Hv, Hk, Hs⟩, ⟨⟨Hb1, Hb2⟩, Hw⟩, Hl, HA, ⟨Hp0, Hr0, Hl6, Hl4⟩, ⟨Hp1, Hr1, Hl5, Hl3⟩, ⟨Ho0, Hl2⟩, ⟨Ho1, Hl1⟩, Ho, Hg⟩
  ihave HL := (landing_back m d) $$ [Hk Hs Hb2]
  · isplitl [Hk]; · iexact Hk
    isplitl [Hs] <;> iassumption
  ihave HB := (sbuf_back m d) $$ Hb1
  ihave HI := (in_join (F := F) d) $$ [Hp0 Hp1 Hr0 Hr1 Ho0 Ho1]
  · isplitl [Hp0 Hp1]
    · isplitl [Hp0] <;> iassumption
    isplitl [Hr0 Hr1]
    · isplitl [Hr0] <;> iassumption
    isplitl [Ho0] <;> iassumption
  isplitl [HO]; · iexact HO
  isplitl [Hv Hw]
  · isplitl [Hw] <;> iassumption
  isplitl [Hl Hl1 Hl2 Hl3 Hl4 Hl5 Hl6]
  · isplitl [Hl1]; · iexact Hl1
    isplitl [Hl2]; · iexact Hl2
    isplitl [Hl3]; · iexact Hl3
    isplitl [Hl4]; · iexact Hl4
    isplitl [Hl5]; · iexact Hl5
    isplitl [Hl6] <;> iassumption
  isplitl [HL]
  · iexists (peerFull m d); iexact HL
  isplitl [HB HI]
  · isplitl [HB]
    · iexists (sbufG m d); iexact HB
    iexact HI
  isplitl [HA]; · iexact HA
  isplitl [Ho] <;> iassumption

end Cert.AllReduce

end
-- ==== Proof.Deal.lean ====
/-
The launch: the cells' invariants allocated, the tokens and the credits dealt to the devices that use them.
-/
module

public import proofs.«01_k».proof.Proof.Ends
public import proofs.«01_k».proof.Proof.Gen.KernelIdeal.Launch

@[expose] public section

noncomputable section

namespace Cert.AllReduce

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, in a row -/

/-- The kernel's own semaphores: numbers 1 to 78 of the pool (number 0 is the window's). -/
def osem (k : Fin 78) : SemLoc sig := .dma (dS (1 + k.val))

theorem ownSemFacts : Pipeline.OwnSemFacts cfg0.spec osem := by decide +kernel

theorem shift (Φ : ℕ → sProp 𝕄) (a n : ℕ) : bigSep (Finset.range n) (fun i => Φ (a + i)) = bigSep (Finset.Ico a (a + n)) Φ := by
  induction n with
  | zero => rw [Finset.range_zero, bigSep_empty, Nat.add_zero, Finset.Ico_self, bigSep_empty]
  | succ n ih => rw [bigSep_range_succ, ih, ← Nat.add_assoc, bigSep_Ico_succ_top (Nat.le_add_right a n)]

theorem cells_eq (d : Dev nD) (Φ : GSem nD τ sig → sProp 𝕄) : (bigSep Finset.univ fun k : Fin 65 => Φ (kcell (d, k)))
    = iprop(Φ (barCell d) ∗ bigSep (Finset.Ico 1 65) fun n => Φ (dcell d n)) := by
  rw [Ring.bigSep_fin_eq_range 65 (fun k : Fin 65 => Φ (kcell (d, k))) (fun n => Φ ((d : Thread nD τ), if n = 0 then .reg barS else .dma (dS n))) (fun t h => rfl),
    Finset.range_eq_Ico, bigSep_Ico_succ_bot (by decide)]
  rw [bigSep_congr (s := Finset.Ico (0 + 1) 65) (fun n hn => by rw [if_neg (show ¬n = 0 by have := Finset.mem_Ico.1 hn; omega)])]
  rfl

theorem ownSems0_eq (c : Dev nD) : (Pipeline.ownSems0 (Ix := Unit) (Name := ℕ) (U := UU) (Lvl := ℕ) (Val := Elt F) (τ := τ) osem c : sProp 𝕄)
    = iprop((bigSep (Finset.Ico 1 65) fun n => semVal (dcell c n) 0) ∗ locals c) := by
  unfold Pipeline.ownSems0 locals
  rw [Ring.bigSep_fin_eq_range 78 _ (fun n => semVal (dcell c (1 + n)) 0) (fun t h => rfl), shift (fun n => semVal (dcell c n) 0),
    shift (fun n => semVal (dcell c n) 0), cut (show 1 ≤ 65 by decide) (show 65 ≤ 1 + 78 by decide)]
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem csem_inj : Function.Injective csem := by
  intro k k' h
  unfold csem at h
  have hk := k.isLt
  have hk' := k'.isLt
  apply Fin.ext
  split_ifs at h with h1 h2 h2
  · omega
  · have := congrArg semNo h
    rw [semNo_dS (by omega), semNo_dS (by omega)] at this
    exact this
theorem kcell_injective : Function.Injective (kcell : Dev nD × Fin 65 → GSem nD τ sig) := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨kcell, kcell_injective⟩

/-! ## The tokens -/

/-- The tokens of a device's own cells: three at its barrier, one at each send and receive cell. -/
def tokOf : Dev nD × (Fin 3 ⊕ Fin 64) → GSem nD τ sig × ℕ × Fin 3
  | (c, .inl a) => (barCell c, 0, a)
  | (c, .inr k) => (dcell c (1 + k.val), 0, 0)
theorem tokOf_injective : Function.Injective tokOf := by
  rintro ⟨c, a | k⟩ ⟨c', a' | k'⟩ h
  · have h1 : c = c' := congrArg (fun x : GSem nD τ sig × ℕ × Fin 3 => x.1.1.1) h
    have h2 : a = a' := congrArg (fun x : GSem nD τ sig × ℕ × Fin 3 => x.2.2) h
    rw [h1, h2]
  · exact absurd (congrArg (fun x : GSem nD τ sig × ℕ × Fin 3 => x.1.2) h).symm (dma_ne_bar _)
  · exact absurd (congrArg (fun x : GSem nD τ sig × ℕ × Fin 3 => x.1.2) h) (dma_ne_bar _)
  · have h1 : c = c' := congrArg (fun x : GSem nD τ sig × ℕ × Fin 3 => x.1.1.1) h
    have h2 : semNo (.dma (dS (1 + k.val))) = semNo (.dma (dS (1 + k'.val))) := congrArg (fun x : GSem nD τ sig × ℕ × Fin 3 => semNo x.1.2) h
    have hk := k.isLt
    have hk' := k'.isLt
    rw [semNo_dS (by omega), semNo_dS (by omega)] at h2
    have h3 : k = k' := Fin.ext (by omega)
    rw [h1, h3]
def allToks : Finset (GSem nD τ sig × ℕ × Fin 3) := Finset.univ.map ⟨tokOf, tokOf_injective⟩

def ownB (d : Dev nD) : sProp 𝕄 := bigSep Finset.univ fun a : Fin 3 => dutyTok ER (barCell d) 0 a
def ownR (d : Dev nD) : sProp 𝕄 := bigSep (Finset.range 32) fun j => dutyTok ER (rcell d j) 0 0
def toks (d : Dev nD) : sProp 𝕄 := iprop(ownB d ∗ tokS d ∗ ownR d)

theorem toks_eq (d : Dev nD) : (bigSep Finset.univ fun x : Fin 3 ⊕ Fin 64 => (dutyTok ER (tokOf (d, x)).1 (tokOf (d, x)).2.1 (tokOf (d, x)).2.2 : sProp 𝕄)) = toks d := by
  rw [bigSep_univ_sum]
  have h : (bigSep Finset.univ fun k : Fin 64 => (dutyTok ER (tokOf (d, .inr k)).1 (tokOf (d, .inr k)).2.1 (tokOf (d, .inr k)).2.2 : sProp 𝕄))
      = iprop(tokS d ∗ ownR d) := by
    rw [Ring.bigSep_fin_eq_range 64 _ (fun n => dutyTok ER (dcell d (1 + n)) 0 0) (fun t h => rfl), shift (fun n => dutyTok ER (dcell d n) 0 0), pool]
    rfl
  rw [h]
  rfl

theorem swap (Φ : Dev nD → ℕ → sProp 𝕄) (n : ℕ) : (bigSep Finset.univ fun c => bigSep (Finset.range n) (Φ c))
    = bigSep (Finset.range n) fun j => bigSep Finset.univ fun c => Φ c j := by
  rw [bigSep_congr (s := Finset.univ) (fun c _ => (Ring.bigSep_fin_eq_range n (fun k : Fin n => Φ c k) (Φ c) fun t h => rfl).symm), BI.bigSep_univ_comm]
  exact Ring.bigSep_fin_eq_range n _ _ fun t h => rfl

def peerEquiv (a : Fin 3) : Dev nD ≃ Dev nD := ⟨peer a, peer a, peer_peer a, peer_peer a⟩

theorem toks_around : (bigSep Finset.univ fun c : Dev nD => (toks c : sProp 𝕄)) = bigSep Finset.univ fun c : Dev nD => iprop(tokB c ∗ tokS c ∗ tokR c) := by
  have hB : (bigSep Finset.univ fun c : Dev nD => (ownB c : sProp 𝕄)) = bigSep Finset.univ fun c : Dev nD => tokB c := by
    unfold ownB tokB
    rw [BI.bigSep_univ_comm, BI.bigSep_univ_comm (fun (c : Dev nD) (a : Fin 3) => (dutyTok ER (barCell (peer a c)) 0 a : sProp 𝕄))]
    exact bigSep_congr fun a _ => bigSep_univ_equiv (peerEquiv a) _
  have hR : (bigSep Finset.univ fun c : Dev nD => (ownR c : sProp 𝕄)) = bigSep Finset.univ fun c : Dev nD => tokR c := by
    unfold ownR tokR
    rw [swap, swap (fun (c : Dev nD) (j : ℕ) => (dutyTok ER (rcell (dest c j) j) 0 0 : sProp 𝕄))]
    exact bigSep_congr fun j _ => bigSep_univ_equiv (peerEquiv (dir j)) _
  unfold toks
  rw [bigSep_sep', bigSep_sep', bigSep_sep', bigSep_sep', hB, hR]

/-! ## Funding -/

def u₀ : UU := (initOf (Pipeline.cells cfgs cellOf_inj) (Pipeline.launchToks cfgs cellOf_inj), (initOf allCells allToks, 1))

/-- What the launch element deals a device. -/
def G (c : Dev nD) : sProp 𝕄 :=
  iprop((bigSep Finset.univ fun k : Fin 65 => roundState ER (rd m) (kcell (c, k)) 0)
    ∗ (bigSep Finset.univ fun k : Fin 65 => iprop(atPos ER (kcell (c, k)) 0 ∅ 0 ∗ reached ER (kcell (c, k)) 0)) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 65 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 65 => semVal (kcell (c, k)) 0) ∗ locals c) : sProp 𝕄) := by
  rw [ownSems0_eq, unscopedSems0_eq, cells_eq c fun g => semVal g 0]
  iintro ⟨⟨HS, HV⟩, HB⟩
  isplitl [HB HS]
  · isplitl [HB] <;> iassumption
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ locals c) := by
  unfold G
  iintro ⟨Hos, Hus, Hst, Hat, Htok⟩
  ihave Hv := (sems0_eq (F := F) c) $$ [Hos Hus]
  · isplitl [Hos] <;> iassumption
  icases Hv with ⟨Hv, Hl⟩
  imod (show iprop((bigSep Finset.univ fun k : Fin 65 => semVal (kcell (c, k)) 0) ∗ bigSep Finset.univ fun k : Fin 65 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What stays with a device: its positions, the tokens it pays with, the semaphores of its local copies. -/
def linear (c : Dev nD) : sProp 𝕄 :=
  iprop((atPos ER (barCell c) 0 ∅ 0 ∗ posS c ∗ posR c) ∗ (tokB c ∗ tokS c ∗ tokR c) ∗ locals c)
def G' (c : Dev nD) : sProp 𝕄 := iprop(∃ K, records m K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 65 → ℕ) (c : Dev nD) : iprop(records m K ∗ linear c) ⊢ G' m c := by
  unfold G'
  iintro H
  iexists K
  iexact H

theorem pos_eq (c : Dev nD) : (bigSep Finset.univ fun k : Fin 65 => (atPos ER (kcell (c, k)) 0 ∅ 0 : sProp 𝕄)) = iprop(atPos ER (barCell c) 0 ∅ 0 ∗ posS c ∗ posR c) := by
  rw [cells_eq c fun g => atPos ER g 0 ∅ 0, pool]
  rfl

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ locals c) : sProp 𝕄)
      ⊢ bigSep Finset.univ (G' m) := by
  have hl : (bigSep Finset.univ fun c : Dev nD => (linear c : sProp 𝕄)) = iprop((bigSep Finset.univ fun c : Dev nD => bigSep Finset.univ fun k : Fin 65 => (atPos ER (kcell (c, k)) 0 ∅ 0 : sProp 𝕄))
      ∗ (bigSep Finset.univ fun c : Dev nD => (toks c : sProp 𝕄)) ∗ bigSep Finset.univ fun c : Dev nD => locals c) := by
    unfold linear
    rw [toks_around, bigSep_congr (s := Finset.univ) (fun (c : Dev nD) _ => pos_eq (F := F) c)]
    exact (bigSep_sep' _ _ _).trans (congrArg (fun X : sProp 𝕄 => iprop((bigSep Finset.univ fun c : Dev nD => iprop(atPos ER (barCell c) 0 ∅ 0 ∗ posS c ∗ posR c)) ∗ X)) (bigSep_sep' _ _ _))
  rw [bigSep_sep', bigSep_sep', bigSep_sep', ← bigSep_univ_prod (fun ck : Dev nD × Fin 65 => iprop(∃ κ : ℕ, cellInv ER (rd m) κ (kcell ck))),
    bigSep_congr (s := Finset.univ) (fun (c : Dev nD) _ => bigSep_sep' Finset.univ (fun k : Fin 65 => (atPos ER (kcell (c, k)) 0 ∅ 0 : sProp 𝕄)) (fun k => reached ER (kcell (c, k)) 0)),
    bigSep_sep', ← bigSep_univ_prod (fun ck : Dev nD × Fin 65 => (reached ER (kcell ck) 0 : sProp 𝕄))]
  iintro ⟨HI, ⟨Hat, #HR⟩, Htok, Hl⟩
  ihave HK := (BI.bigSep_exists_pi Finset.univ (fun (ck : Dev nD × Fin 65) (κ : ℕ) => (cellInv ER (rd m) κ (kcell ck) : sProp 𝕄))) $$ HI
  icases HK with ⟨%K, #HI⟩
  iapply (with_persistent (R := records m K) fun c _ => ghost_intro m K c)
  isplitr
  · unfold records; isplitl; · iexact HI
    iexact HR
  · iapply (Entails.of_eq hl.symm)
    isplitl [Hat]; · iexact Hat
    isplitl [Htok] <;> iassumption

/-- The step taken for all devices at once: the cells' invariants allocated, the tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_inj {a b : Dev nD} (h : barCell a = barCell b) : a = b := congrArg (fun g : GSem nD τ sig => g.1.1) h
theorem rcell_inj {a b : Dev nD} {i j : ℕ} (hi : i < 32) (hj : j < 32) (h : rcell a i = rcell b j) : a = b ∧ i = j := by
  refine ⟨congrArg (fun g : GSem nD τ sig => g.1.1) h, ?_⟩
  have h2 : semNo (.dma (dS (rNum i))) = semNo (.dma (dS (rNum j))) := congrArg (fun g : GSem nD τ sig => semNo g.2) h
  have h3 := rNum_lt ⟨i, hi⟩
  have h4 := rNum_lt ⟨j, hj⟩
  dsimp only at h3 h4
  rw [semNo_dS (by omega), semNo_dS (by omega)] at h2
  exact congrArg Fin.val (rNum_inj ⟨i, hi⟩ ⟨j, hj⟩ h2)

theorem owe_bar (d c : Dev nD) : owe d 0 (barCell c) () = 0 := by
  by_contra h
  obtain ⟨j, -, -, e⟩ := owe_pos (Nat.pos_of_ne_zero h)
  exact dma_ne_bar _ (congrArg Prod.snd e).symm
theorem bar_unit (a : Fin 3) (d c : Dev nD) : (tallyAt (barCell (peer a d)) () 1 : CellTallies nD τ sig Unit) (barCell c) () = if d = peer a c then 1 else 0 := by
  rw [tallyAt_apply]
  by_cases h : d = peer a c
  · subst h; rw [peer_peer, if_pos ⟨rfl, rfl⟩, if_pos rfl]
  · rw [if_neg (fun ⟨h1, _⟩ => h (by rw [bar_inj h1, peer_peer])), if_neg h]
theorem owed_bar (d c : Dev nD) : O₀ d (barCell c) () = (if d = peer 2 c then 1 else 0) + (if d = peer 1 c then 1 else 0) + (if d = peer 0 c then 1 else 0) := by
  unfold O₀ O₁ O₂
  rw [Pi.add_apply, Finsupp.add_apply, Pi.add_apply, Finsupp.add_apply, Pi.add_apply, Finsupp.add_apply, owe_bar, Nat.zero_add,
    ← bar_unit 0 d c, ← bar_unit 1 d c, ← bar_unit 2 d c]
  rfl
theorem owed_recv (d c : Dev nD) {j : ℕ} (hj : j < 32) : O₀ d (rcell c j) () = if d = dest c j then N else 0 := by
  have hb (c' : Dev nD) : (tallyAt (barCell c') () 1 : CellTallies nD τ sig Unit) (rcell c j) () = 0 := by
    rw [tallyAt_apply, if_neg fun h => dma_ne_bar _ (congrArg Prod.snd h.1)]
  unfold O₀ O₁ O₂
  rw [Pi.add_apply, Finsupp.add_apply, Pi.add_apply, Finsupp.add_apply, Pi.add_apply, Finsupp.add_apply, hb, hb, hb]
  simp only [Nat.add_zero]
  unfold owe
  rw [Finset.sum_apply, Finsupp.finset_sum_apply, Finset.sum_eq_single_of_mem j (by rw [Finset.mem_Ico]; omega), tallyAt_apply]
  · by_cases h : d = dest c j
    · subst h; rw [dest_dest, if_pos ⟨rfl, rfl⟩, if_pos rfl]
    · rw [if_neg (fun ⟨h1, _⟩ => h (by rw [(rcell_inj hj hj h1).1, dest_dest])), if_neg h]
  · intro i hi hne
    have hi := (Finset.mem_Ico.1 hi).2
    rw [tallyAt_apply, if_neg fun h => hne (rcell_inj hj hi h.1).2.symm]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1, Finset.sum_ite_eq' Finset.univ (peer 0 c) fun _ => 1,
    if_pos (Finset.mem_univ _), if_pos (Finset.mem_univ _), if_pos (Finset.mem_univ _)]
theorem launch_recv (c : Dev nD) {j : ℕ} (hj : j < 32) :
    tallyOn (rcell c j) (launchCredit (Pipeline.owing O₀) 0 (rcell c j)) = (tallyAt (rcell c j) () N : CellTallies nD τ sig Unit) := by
  unfold tallyAt; refine congrArg _ (Finsupp.ext fun u => ?_); cases u
  rw [Pipeline.launchCredit_owing, Finsupp.single_eq_same, Finset.sum_congr rfl fun d _ => owed_recv d c hj, Finset.sum_ite_eq' Finset.univ (dest c j) fun _ => N,
    if_pos (Finset.mem_univ _)]

theorem rsems_inj (c : Dev nD) : Set.InjOn (fun j : ℕ => (SemLoc.dma (dS (rNum j)) : SemLoc sig)) (Finset.range 32) := by
  intro i hi j hj h
  exact (rcell_inj (Finset.mem_range.1 hi) (Finset.mem_range.1 hj) (show rcell c i = rcell c j from congrArg (fun s => ((c : Thread nD τ), s)) h)).2

theorem creds (c : Dev nD) : (Pipeline.launchCred O₀ c : sProp 𝕄) ⊢ iprop(cred (tallyAt (barCell c) () 3) ∗ credR c) := by
  unfold Pipeline.launchCred
  have hsub : (Finset.range 32).image (fun j : ℕ => (SemLoc.dma (dS (rNum j)) : SemLoc sig)) ⊆ Finset.univ.erase (SemLoc.reg barS) := by
    intro s hs
    obtain ⟨j, -, rfl⟩ := Finset.mem_image.1 hs
    exact Finset.mem_erase.mpr ⟨dma_ne_bar _, Finset.mem_univ _⟩
  rw [bigSep_univ_at _ (SemLoc.reg barS), launch_bar]
  refine sep_mono_right ((bigSep_subset hsub).trans ?_)
  rw [bigSep_image_of_injOn (rsems_inj c)]
  unfold credR
  exact Entails.of_eq (bigSep_congr fun j hj => congrArg cred (launch_recv c (Finset.mem_range.1 hj)))

end Cert.AllReduce

end
-- ==== Proof.Start.lean ====
/-
The kernel's body from what a device starts with: the handshake at the barrier, then the exchange.
-/
module

public import proofs.«01_k».proof.Proof.Deal

@[expose] public section

noncomputable section

namespace Cert.AllReduce

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat BodyObligation)

/-! ## What a device starts and ends with -/

/-- What a device's body starts from, but for its scoped buffers. -/
def start (c : Dev nD) : sProp 𝕄 :=
  iprop(G' m c ∗ (cred (tallyAt (barCell c) () 3) ∗ credR c) ∗ levAts L lv
    ∗ args m c ∗ ((c : Thread nD τ).loc main_v1) ↦{fullShare} m ((c : Thread nD τ).loc main_v1))
def Φ₀ (c : Dev nD) : sProp 𝕄 := iprop(start m c ∗ landing c ∗ bufs c)
/-- After the body: every semaphore at zero, the arguments as they were, the result written. -/
def Φ₁ (c : Dev nD) : sProp 𝕄 :=
  iprop((semVal (barCell c) 0 ∗ (bigSep (Finset.Ico 1 65) fun n => semVal (dcell c n) 0) ∗ locals c) ∗ (landing c ∗ bufs c)
    ∗ args m c ∗ ((c : Thread nD τ).loc main_v1) ↦{fullShare} outFull m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => argG m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The barrier -/

/-- One signal of the handshake: to the neighbour in direction `a`, lending it the rows it writes. -/
theorem runs_signal (K : Dev nD × Fin 65 → ℕ) (c : Dev nD) (a : Fin 3) {k : PR F} {Q : PUnit → sProp 𝕄} (n : Dev nD) (hn : n = peer a c)
    (O : CellTallies nD τ sig Unit) (W : Waits sig Unit) :
    iprop(ctx m K ∗ owes (c : Thread nD τ) (O + tallyAt (barCell n) () 1) W ∗ dutyTok ER (barCell (peer a c)) 0 a ∗ barPay (peer a c) a)
      ⊢ iprop((owes (c : Thread nD τ) O W -∗ runs c k Q) -∗ runs c (signal n k) Q) := by
  subst hn
  unfold ctx
  iintro ⟨⟨#Hlev, #HR⟩, HO, Ht, Hp⟩ Hk
  ihave #Hc := (rec_bar m K (peer a c)) $$ HR
  icases Hc with ⟨#HI, #Hr⟩
  iapply (Rounds.wp_signal 𝒱₀ ER (rd m) (c : Thread nD τ) none (dst := (peer a c : Thread nD τ)) (κ := K (peer a c, 0))
      (d := a) (by rw [duties_bar]; exact Finset.mem_univ _) ((amount_bar m (peer a c) a).trans (by decide)) () O rfl)
    $$ [HO Ht Hp]
  · isplitr; · iexact HI
    isplitl [HO]; · iexact HO
    isplitl [Ht]; · iexact Ht
    isplitl [Hp]; · rw [payload_bar]; iexact Hp
    iexact Hr
  iexact Hk

/-- The wait of the handshake: the three neighbours' rows come with it, and the barrier's cell is closed. -/
theorem runs_bar (K : Dev nD × Fin 65 → ℕ) (c : Dev nD) {k : PR F} {Q : PUnit → sProp 𝕄} (W : Waits sig Unit) :
    iprop(ctx m K ∗ cred (tallyAt (barCell c) () 3) ∗ owes (c : Thread nD τ) (owe c 0) W ∗ atPos ER (barCell c) 0 ∅ 0)
      ⊢ iprop((iprop(Owes c 0 ∗ semVal (barCell c) 0 ∗ rowsTo c) -∗ runs c k Q)
        -∗ runs c (Prog.op (.semWait barS (3#32 : BitVec 32).toInt) fun _ => k) Q) := by
  have hrows : (bigSep ((rd (F := F) m).duties (barCell c) 0 \ ∅) (fun a => (rd (F := F) m).payload (barCell c) 0 a)) ⊢ rowsTo c := by
    rw [rest_bar, barPay_all]; exact BIBase.Entails.rfl
  unfold ctx
  iintro ⟨⟨#Hlev, #HR⟩, HcB, HO, HatB⟩ Hk
  ihave #Hc := (rec_bar m K c) $$ HR
  icases Hc with ⟨#HI, #Hr⟩
  iapply (Rounds.wp_wait_rest_token 𝒱₀ ER (rd m) (c : Thread nD τ) none (κ := K (c, 0))
      (wpE_semWait_eq 𝒱₀ (c : Thread nD τ) none Set.univ) (Set.mem_univ _) () (O := owe c 0) (W := W) (R := 0) (m := 0) (T := ∅)
      (by rw [expect_bar]; decide)) $$ [HcB HO HatB]
  · isplitr; · iexact HI
    isplitl [HcB]; · iexact HcB
    isplitl [HO]; · iexact HO
    isplitr
    · iapply (mayWait_owe c (.reg barS) 0 1 (if_pos rfl).le (fun j _ _ => rlv_pos j)); iexact Hlev
    iexact HatB
  iintro ⟨HO, HatB, -, Hpay⟩
  imod (Rounds.cell_close ER (rd m) (Set.mem_univ (K (c, 0))) (fun h => h) (R := 0 + 1) (duties_later m (barCell c))) $$ [HatB] with HzB
  · isplitr; · iexact HI
    iexact HatB
  iapply Hk
  isplitl [HO]; · unfold Owes; iexists _; iexact HO
  isplitl [HzB]; · iexact HzB
  iapply hrows; iexact Hpay

theorem fin3 (Φ : Fin 3 → sProp 𝕄) : bigSep Finset.univ Φ = iprop(Φ 0 ∗ Φ 1 ∗ Φ 2) := bigSep_univ_eq_bigSepL [0, 1, 2] (by decide) (by decide) Φ

theorem runs_ret (c : Dev nD) {Q : PUnit → sProp 𝕄} : Q ⟨⟩ ⊢ runs c (Prog.ret ⟨⟩ : PR F) Q := by
  unfold runs
  rw [wp_ret]
  iintro H
  imodintro
  iexact H

/-- The body, from what a device starts with to what it ends with. -/
theorem runs_prog (c : Dev nD) (W : Waits sig Unit) (Q : PUnit → sProp 𝕄) :
    iprop(Φ₀ m c ∗ owes (c : Thread nD τ) (O₀ c) W ∗ gamAt m c)
      ⊢ iprop((iprop(Φ₁ m c ∗ Owes c 32 ∗ gamAt m c) -∗ Q ⟨⟩) -∗ runs c (prog c) Q) := by
  have hgive : landing (F := F) c ⊢ iprop(barPay (peer 0 c) 0 ∗ barPay (peer 1 c) 1 ∗ barPay (peer 2 c) 2) := by
    rw [← fin3 fun a => barPay (peer a c) a]; exact give c
  have htok : tokB (F := F) c ⊢ iprop(dutyTok ER (barCell (peer 0 c)) 0 0 ∗ dutyTok ER (barCell (peer 1 c)) 0 1 ∗ dutyTok ER (barCell (peer 2 c)) 0 2) := by
    unfold tokB; rw [fin3]
  unfold Φ₀ start G' linear prog
  iintro ⟨⟨⟨⟨%K, #HR, ⟨HatB, HpS, HpR⟩, ⟨HtB, HtS, HtR⟩, Hloc⟩, ⟨HcB, HcR⟩, #Hlev, Hargs, Hv⟩, Hland, Hbufs⟩, HO, HG⟩ Hk
  ihave Hg := hgive $$ Hland
  icases Hg with ⟨Hg0, Hg1, Hg2⟩
  ihave Ht := htok $$ HtB
  icases Ht with ⟨Ht0, Ht1, Ht2⟩
  ihave #Hc := (show iprop(levAts L lv ∗ records m K) ⊢ ctx m K from by unfold ctx; exact BIBase.Entails.rfl) $$ [Hlev HR]
  · isplitr <;> iassumption
  unfold O₀
  iapply (runs_signal m K c 0 (py c) rfl (O₁ c) W) $$ [HO Ht0 Hg0]
  · isplitr; · iexact Hc
    isplitl [HO]; · iexact HO
    isplitl [Ht0] <;> iassumption
  iintro HO
  unfold O₁
  iapply (runs_signal m K c 1 (px c) rfl (O₂ c) W) $$ [HO Ht1 Hg1]
  · isplitr; · iexact Hc
    isplitl [HO]; · iexact HO
    isplitl [Ht1] <;> iassumption
  iintro HO
  unfold O₂
  iapply (runs_signal m K c 2 (pz c) rfl (owe c 0) W) $$ [HO Ht2 Hg2]
  · isplitr; · iexact Hc
    isplitl [HO]; · iexact HO
    isplitl [Ht2] <;> iassumption
  iintro HO
  iapply (runs_bar m K c W) $$ [HcB HO HatB]
  · isplitr; · iexact Hc
    isplitl [HcB]; · iexact HcB
    isplitl [HO] <;> iassumption
  iintro ⟨HO, HzB, Hrows⟩
  iapply (runs_body m K c) $$ [HO HtS HtR Hrows HcR HpR HpS Hloc Hbufs Hargs Hv HG]
  · isplitr; · iexact Hc
    iapply (pre_intro m c (m ((c : Thread nD τ).loc main_v1)))
    isplitl [HO]; · iexact HO
    isplitl [HtS HtR Hrows]
    · isplitl [HtS]; · iexact HtS
      isplitl [HtR] <;> iassumption
    isplitl [HcR HpR]
    · isplitl [HcR] <;> iassumption
    isplitl [HpS]; · iexact HpS
    isplitl [Hloc]; · iexact Hloc
    isplitl [Hbufs]; · iexact Hbufs
    isplitl [Hargs]; · iexact Hargs
    isplitl [Hv] <;> iassumption
  iintro HP
  ihave HP' := (post_elim m c) $$ HP
  icases HP' with ⟨HO, Hs, Hloc, Hland, Hbufs, Hargs, Hv, HG⟩
  iapply (runs_ret c)
  iapply Hk
  unfold Φ₁
  isplitl [HzB Hs Hloc Hland Hbufs Hargs Hv]
  · isplitl [HzB Hs Hloc]
    · isplitl [HzB]; · iexact HzB
      isplitl [Hs] <;> iassumption
    isplitl [Hland Hbufs]
    · isplitl [Hland] <;> iassumption
    isplitl [Hargs] <;> iassumption
  isplitl [HO] <;> iassumption

/-! ## The library's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ m c ∗ (dats m ρ 0 c).owesAt () t0_0.succ ∗ stg c cc0_stg0_0 (argG m c))

theorem fetch_0 (t : Fin cfg0.N) : (cfg0.win (0 : Fin 1)).fetch t = true := by rw [fin_N0 t]; rfl

theorem stg_read (f : S1x2048.Idx → Elt F .f32) : ((cfg0.win (0 : Fin 1)).blk t0_0).view.read (Elt F) f = f := by
  funext x
  refine congrArg f (funext fun a => Fin.ext ?_)
  show 0 * _ + 1 * _ = _
  rw [Nat.zero_mul, Nat.zero_add, Nat.one_mul]

theorem sound_body (c : Dev nD) : bodyPre m ρ c ⊢ runs c (Prog.op .deviceId prog) fun _ => bodyPost m ρ c := by
  unfold runs
  rw [wp_deviceId]
  unfold bodyPre bodyPost Dat.owesAt Pipeline.owesWithin
  iintro ⟨HΦ, ⟨%W, %hW, HO⟩, ⟨%d0, %g0, %hg0, Hx⟩⟩
  have hx : g0 = argG m c := by rw [hg0]; unfold Dat.before; rw [if_pos (fetch_0 t0_0)]; exact stg_read (argG m c)
  subst hx
  rw [show (dats m ρ 0 c).owed t0_0.castSucc = O₀ c from rfl, show (dats m ρ 0 c).owed t0_0.succ = 0 from rfl]
  iapply (runs_prog m c W _) $$ [HΦ HO Hx]
  · isplitl [HΦ]; · iexact HΦ
    isplitl [HO]; · iexact HO
    unfold gamAt; iexact Hx
  iintro ⟨HΦ, HO, HG⟩
  isplitl [HΦ]; · iexact HΦ
  isplitl [HO]
  · unfold Owes; rw [owe_end c (le_refl 32)]
    icases HO with ⟨%W', HO⟩
    iexists W'
    isplitr; · ipureintro; exact fun _ _ => Or.inl trivial
    iexact HO
  iexists (argG m c)
  isplitr; · (ipureintro; rfl)
  unfold gamAt; iexact HG

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  have h := (sound_body m ρ c).trans (Entails.of_eq (congrArg (fun p => runs c p fun _ => bodyPost m ρ c) body_eq.symm))
  simp only [owns_whole_eq]
  exact h

end Cert.AllReduce

end
-- ==== Proof.Launch.lean ====
/-
The run of the whole mesh: every device's result, its arguments unchanged, every semaphore at zero.
-/
module

public import proofs.«01_k».proof.Proof.Start
public import Idealize.ShloMosaic.Lib.Pipeline.CollectiveSegs

@[expose] public section

noncomputable section

namespace Cert.AllReduce

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat BodyObligation)

theorem share_eq (c : Dev nD) (w : Fin cfg0.W) : (dats m ρ 0 c).share w = fullShare := by unfold Dat.share; split <;> rfl

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hu : (Pipeline.unscopedRestP (Ix := Unit) (Name := ℕ) (U := UU) (Lvl := ℕ) Pipeline.Prefetch.none cfg0.spec c (fun b => m ((c : Thread nD τ).loc b)) : sProp 𝕄)
      ⊢ iprop(args m c ∗ ((c : Thread nD τ).loc main_v1) ↦{fullShare} m ((c : Thread nD τ).loc main_v1)) := by
    refine (Entails.of_eq ((Pipeline.unscopedRestP_none _ _ _).trans (unscopedRest0_eq c fun b => m ((c : Thread nD τ).loc b)))).trans ?_
    unfold args argP argR
    iintro ⟨H0, H1, Hv⟩
    isplitl [H0 H1]
    · isplitl [H0] <;> iassumption
    iexact Hv
  iintro ⟨Hr, Hlev, Hcr, -, HG⟩
  ihave Hc := (creds (F := F) c) $$ Hcr
  ihave Ha := hu $$ Hr
  icases Ha with ⟨Ha, Hv⟩
  imodintro
  unfold start
  isplitl
  · isplitl [HG]; · iexact HG
    isplitl [Hc]; · iexact Hc
    isplitl [Hlev]; · iexact Hlev
    isplitl [Ha] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ landing bufs
  iintro ⟨Hs, -, Hr⟩
  isplitl [Hs]; · iexact Hs
  iexact Hr

/-- What a device's run leaves beside its scoped buffers and semaphores. -/
def left (c : Dev nD) : sProp 𝕄 := iprop(unscopedSems0 c ∗ args m c ∗ ((c : Thread nD τ).loc main_v1) ↦{fullShare} outFull m c)

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ left landing bufs
  rw [unscopedSems0_eq]
  iintro ⟨⟨HzB, Hs⟩, Hr, Hav⟩
  isplitl [HzB Hav]
  · isplitl [HzB] <;> iassumption
  isplitl [Hs] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_launch c _ (by fin_cases w; fin_cases s; exact if_neg (by rintro ⟨h, -⟩)) _ (by
      rcases t with ⟨_ | _, ht⟩
      · exact Or.inl rfl
      · exact Or.inr rfl)

/-! ### The run -/

/-- What is read of a device at the end: its arguments as they were, its result, its semaphores at zero. -/
def QY (c : Dev nD) (s : MemSt nD τ sig (Elt F)) : Prop :=
  (s.mem ((c : Thread nD τ).loc main_v1) = outFull m c ∧ s.mem ((c : Thread nD τ).loc main_arg0) = m ((c : Thread nD τ).loc main_arg0)
      ∧ s.mem ((c : Thread nD τ).loc main_arg1) = m ((c : Thread nD τ).loc main_arg1))
    ∧ ∀ sm : SemLoc sig, sm.isScoped .tc = false → s.sem ((c.tc : Thread nD τ), sm) = 0

theorem left_read (c : Dev nD) (s' : Phys nD τ sig (Elt F)) :
    iprop(left m c ∗ emp ∗ SI s') ⊢ (|={Set.univ}=> iprop(⌜QY m c s'.mem⌝ ∗ SI s') : sProp 𝕄) := by
  unfold left args
  iintro ⟨⟨Hu, ⟨H0, H1⟩, Hv⟩, -, HSI⟩
  icombine HSI H0 gives %h0
  icombine HSI H1 gives %h1
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro
    exact ⟨⟨funext fun i => hv i (Finset.mem_univ i), funext fun i => h0 i (Finset.mem_univ i), funext fun i => h1 i (Finset.mem_univ i)⟩, hs⟩
  iexact HSI

/-- The run's post: on every device the result, the three arguments as they were. -/
def Ends (s : MemSt nD τ sig (Elt F)) : Prop := ∀ c : Dev nD,
  s.mem ((c : Thread nD τ).loc main_v1) = outFull m c ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

theorem gamma_kept (c : Dev nD) : (dats m ρ 0 c).arrAt (0 : Fin 1) cfg0.N = m ((c : Thread nD τ).loc main_arg2) :=
  (dats (F := F) m ρ 0 c).arrAt_in (0 : Fin 1) rfl _

set_option maxRecDepth 65536 in
/-- From any memory with zero counters, for any float values, every weakly fair execution terminates with the result on
    every device, the arguments unchanged and every semaphore at zero. -/
theorem run_main : θ_run defs (onTc (τ := τ) (main (F := F))) (s₀ m ρ) (fun r => Ends m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (show BI.own (embR (initOf allCells allToks, (1 : Counters))) ⊢ (|==> bigSep Finset.univ (G m) : sProp 𝕄) from fund_all m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := QY m) (hY := left_read m)
    (hQ := fun _ h hs => ⟨fun c => ⟨(h c).2.2.1.1, (h c).2.2.1.2.1, (h c).2.2.1.2.2, ((h c).1 0).trans (gamma_kept m ρ c)⟩,
      sem_eq_zero hs fun c => (h c).2.2.2⟩)

end Cert.AllReduce

end
-- ==== Proof.Same.lean ====
/-
The kernel as printed and the kernel as idealized are one program: the body tables agree at bit patterns, so the launch's
run, taken at bit patterns, is a run of the kernel as printed.
-/
module

public import proofs.«01_k».proof.Defs
public import proofs.«01_k».proof.Proof.Gen.Kernel
public import proofs.«01_k».proof.Proof.Launch

@[expose] public section

noncomputable section

namespace Cert.AllReduce

open Idealize.ShloMosaic Idealize.SL.Sem

theorem bodies_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

theorem defs_same : Cert.Kernel.defs (F := Bits) = Cert.KernelIdeal.defs (F := Bits) :=
  congrArg (Pipeline.defs Cert.KernelIdeal.pcfgs) bodies_same

/-- The kernel as printed terminates, keeps its arguments and leaves every semaphore at zero. -/
theorem frame_kernel : Cert.quiescent_Kernel := fun m ρ _ => by
  rw [defs_same]
  exact (θ_run Cert.KernelIdeal.defs _ _).mono (fun _ h => ⟨fun c => (h.1 c).2, h.2⟩) (run_main (F := Bits) m ρ)

end Cert.AllReduce

end
-- ==== Proof.Norm.lean ====
/-
The normalisation of one row, on extended reals.

The kernel multiplies by the reciprocal square root of the row's mean square plus epsilon, the reference divides by the
square root. The mean square is never negative and epsilon is positive, so the two agree on every row, infinite ones
included: an infinite mean square makes both factors zero.
-/
module

public import proofs.«01_k».proof.Proof.Program
public import proofs.«01_k».proof.Proof.Gen.ReferenceIdeal.Run
public import Idealize.ShloMosaic.Lib.Pointwise

@[expose] public section

noncomputable section

namespace Cert.AllReduce

open Idealize.ShloMosaic

/-- The number of columns and epsilon, as the two programs spell them. -/
abbrev width : EReal := Ideal.ofBits .f32 0x45000000#32
abbrev epsilon : EReal := Ideal.ofBits .f32 0x358637BD#32

theorem width_eq : width = ((2048 : ℝ) : EReal) := by
  simp [width, Ideal.ofBits, Ideal.ieee, -EReal.coe_mul]; norm_num

theorem epsilon_pos : 0 < epsilon := by
  simp [epsilon, Ideal.ofBits, Ideal.ieee, -EReal.coe_mul]

/-- The mean square of a row, plus epsilon. -/
def spread (y : Fin 2048 → EReal) : EReal := Ideal.div (∑ k, y k * y k) width + epsilon

/-- A row's element `c`, normalised and scaled by `g`. -/
def normed (y : Fin 2048 → EReal) (g : EReal) (c : Fin 2048) : EReal := Ideal.div (y c) (Ideal.sqrt (spread y)) * g

theorem square_nonneg (a : EReal) : 0 ≤ a * a := by
  induction a with
  | bot => simp
  | top => simp
  | coe r => exact_mod_cast mul_self_nonneg r

theorem spread_pos (y : Fin 2048 → EReal) : 0 < spread y := by
  unfold spread
  rw [width_eq, Ideal.div_coe (by norm_num)]
  have h : (0 : EReal) ≤ (∑ k, y k * y k) * ((1 / 2048 : ℝ) : EReal) :=
    mul_nonneg (Finset.sum_nonneg fun k _ => square_nonneg _) (by exact_mod_cast (by norm_num : (0 : ℝ) ≤ 1 / 2048))
  exact lt_of_lt_of_le epsilon_pos (le_add_of_nonneg_left h)

/-- At a positive value, multiplying by the reciprocal root is dividing by the root. -/
theorem mul_rsqrt (a : EReal) {v : EReal} (hv : 0 < v) : a * Ideal.rsqrt v = Ideal.div a (Ideal.sqrt v) := by
  induction v with
  | bot => exact absurd hv (by simp)
  | top => simp [Ideal.div]
  | coe r =>
    have hr : 0 < r := by exact_mod_cast hv
    have hs : Real.sqrt r ≠ 0 := (Real.sqrt_pos.2 hr).ne'
    rw [Ideal.rsqrt_coe, Ideal.sqrt_coe, if_neg hr.not_gt, if_neg hr.not_gt, if_neg hr.ne', Ideal.div_coe hs, one_div]

/-- The kernel's result at an element of its block. -/
theorem pay_at (p : Vec Ideal Cert.KernelIdeal.S1x64x2048 .f32) (q : Vec Ideal Cert.KernelIdeal.S64x2048 .f32)
    (r : Vec Ideal Cert.KernelIdeal.S1x64x2048 .f32) (g : Vec Ideal Cert.KernelIdeal.S1x2048 .f32) (i : Fin 64) (j : Fin 2048) :
    pay p q r g (ix3 0 i j) = normed (fun k => p (ix3 0 i k) + q (ix2 i k) + r (ix3 0 i k)) (g (ix2 0 j)) j := by
  unfold normed
  rw [← mul_rsqrt _ (spread_pos _)]
  unfold spread
  pointwise [pay, Cert.KernelIdeal.Gen.k0_pay1, Cert.KernelIdeal.Gen.k0_pay2]

end Cert.AllReduce

end
-- ==== Proof.Value.lean ====
/-
The value the devices leave: the reference's result of the whole arrays.

A device holds one half of the partial sums, by its second mesh coordinate, and the sums of chunk `g` reach it from a device
whose second coordinate is the other one. So what it adds is both halves, the own one first, then the residual; the reference
adds the two halves in their order. On extended reals the order does not matter.
-/
module

public import proofs.«01_k».proof.Proof.Norm
public import proofs.«01_k».proof.Proof.Schedule
public import Idealize.ShloMosaic.Lib.Layout

@[expose] public section

noncomputable section

namespace Cert.AllReduce

open Idealize.ShloMosaic

section Reference

open Cert.ReferenceIdeal Cert.ReferenceIdeal.Gen

/-- The partial sums added, plus the residual. -/
abbrev added (a : FVec Ideal S2x2048x2048 .f32) (r : FVec Ideal S2048x2048 .f32) : FVec Ideal S2048x2048 .f32 :=
  addf (Host.reduceAdd a (constant S_ .f32 0x00000000#32) reducesTo_S2x2048x2048_S2048x2048_d0 h_S_) r

/-- The reference's result of the whole arrays. -/
def wanted (a : FVec Ideal S2x2048x2048 .f32) (r : FVec Ideal S2048x2048 .f32) (g : FVec Ideal S1x2048 .f32) :
    FVec Ideal S2048x2048 .f32 :=
  mulf (Host.divf (added a r)
      (broadcastInDim S2048x2048 ![0, 1] bcast_S2048x1_S2048x2048_0_1
        (Host.sqrt (addf
          (Host.divf
            (broadcastInDim S2048x1 ![0] bcast_S2048_S2048x1_0
              (Host.reduceAdd (mulf (added a r) (added a r)) (constant S_ .f32 0x00000000#32) reducesTo_S2048x2048_S2048_d1 h_S_))
            (broadcastInDim S2048x1 ![] bcast_S_S2048x1 (constant S_ .f32 0x45000000#32)))
          (broadcastInDim S2048x1 ![] bcast_S_S2048x1 (constant S_ .f32 0x358637BD#32))))))
    (broadcastInDim S2048x2048 ![0, 1] bcast_S1x2048_S2048x2048_0_1 g)

theorem wanted_at (a : FVec Ideal S2x2048x2048 .f32) (r : FVec Ideal S2048x2048 .f32) (g : FVec Ideal S1x2048 .f32)
    (i j : Fin 2048) :
    wanted a r g (ix2 i j)
      = normed (fun k => a (ix3 0 i k) + a (ix3 1 i k) + r (ix2 i k)) (g (ix2 0 j)) j := by
  unfold normed spread
  pointwise [wanted, added]
  simp only [Fin.sum_univ_two, zero_add]

end Reference

open Cert.KernelIdeal

/-- The half of the partial sums a device holds. -/
def half (d : Dev nD) : Fin 2 := ⟨d.val / 2 % 2, Nat.mod_lt _ (by decide)⟩

theorem half_src (d : Dev nD) {g : ℕ} (hg : g < 32) : (half (srcDev d g)).val = 1 - (half d).val := by
  unfold half srcDev
  show (4 * (g / 16) + 2 * (1 - d.val / 2 % 2) + g / 8 % 2) % 8 / 2 % 2 = 1 - d.val / 2 % 2
  omega

/-- A device's block at an index, as an element of the whole array. -/
theorem block_at (a : (⟨3, ![2, 2048, 2048]⟩ : Shape).Idx → EReal) (d : Dev nD) (i k : Fin 2048) :
    (Layout.blockN ⟨3, ![1, 2048, 2048]⟩ ⟨3, ![2, 2048, 2048]⟩ (Layout.meshBlock [2, 2, 2] ![[1], [], []] d) a) (ix3 0 i k)
      = a (ix3 (half d) i k) := by
  rw [Layout.blockN_apply]
  refine congrArg a (funext fun b => Fin.ext ?_)
  rw [Layout.TilesN.idx_val]
  match b with
  | ⟨0, _⟩ => exact show (d.val / 2 % 2 * 1 + 0) * 1 + 0 = d.val / 2 % 2 by omega
  | ⟨1, _⟩ => exact show 0 * 2048 + i.val = i.val by omega
  | ⟨2, _⟩ => exact show 0 * 2048 + k.val = k.val by omega

/-- Both halves, the own one first. -/
theorem halves (a : (⟨3, ![2, 2048, 2048]⟩ : Shape).Idx → EReal) (d e : Dev nD) (h : (half e).val = 1 - (half d).val)
    (i k : Fin 2048) : a (ix3 (half d) i k) + a (ix3 (half e) i k) = a (ix3 0 i k) + a (ix3 1 i k) := by
  have hd : (half d).val < 2 := (half d).isLt
  rcases (by omega : (half d).val = 0 ∨ (half d).val = 1) with h0 | h1
  · rw [show half d = 0 from Fin.ext h0, show half e = 1 from Fin.ext (by rw [h, h0]; rfl)]
  · rw [show half d = 1 from Fin.ext h1, show half e = 0 from Fin.ext (by rw [h, h1]; rfl), add_comm]

variable (m : (ℓ : Loc nD τ sig) → Buf (Elt Ideal) ℓ)

/-- Every device ends with the reference's result. -/
theorem outFull_eq (a : (⟨3, ![2, 2048, 2048]⟩ : Shape).Idx → EReal) (r : S2048x2048.Idx → EReal) (g : S1x2048.Idx → EReal)
    (hP : ∀ d, argP m d = Layout.blockN ⟨3, ![1, 2048, 2048]⟩ ⟨3, ![2, 2048, 2048]⟩ (Layout.meshBlock [2, 2, 2] ![[1], [], []] d) a)
    (hR : ∀ d, argR m d = r) (hG : ∀ d, argG m d = g) (d : Dev nD) : outFull m d = wanted a r g := by
  funext p
  obtain ⟨i, j, rfl⟩ : ∃ i j : Fin 2048, p = ix2 i j := ⟨p 0, p 1, (ValueIdx.eq_ix2 p).trans (ix2_eq_valueIdx _ _).symm⟩
  have hi : i.val < 2048 := i.isLt
  have hrow : rowOf (i.val / 64) ⟨i.val % 64, Nat.mod_lt _ (by decide)⟩ = i :=
    Fin.ext (show (64 * (i.val / 64) + i.val % 64) % 2048 = i.val by omega)
  have hg : i.val / 64 < 32 := by omega
  have hA : ∀ (c : Dev nD) (k : Fin 2048), argP m c (ValueIdx.ix3 0 i k) = a (ix3 (half c) i k) := fun c k => by
    rw [hP, ← ix3_eq_valueIdx, block_at]
  rw [wanted_at]
  show blk m d (i.val / 64) (ValueIdx.ix3 0 ⟨i.val % 64, _⟩ j) = _
  unfold blk
  rw [← ix3_eq_valueIdx, pay_at, hG]
  refine congrArg (fun y => normed y (g (ix2 0 j)) j) (funext fun k => ?_)
  show argP m d (ValueIdx.ix3 0 (rowOf (i.val / 64) ⟨i.val % 64, _⟩) k)
      + argP m (srcDev d ((rowOf (i.val / 64) ⟨i.val % 64, _⟩).val / 64)) (ValueIdx.ix3 0 (rowOf (i.val / 64) ⟨i.val % 64, _⟩) k)
      + argR m d (ValueIdx.ix2 (rowOf (i.val / 64) ⟨i.val % 64, _⟩) k) = _
  rw [hrow, hA, hA, hR, halves a d _ (half_src d hg), ix2_eq_valueIdx]

end Cert.AllReduce

end
-- ==== Proof.lean ====
/- The proof of the claims about the kernel: it keeps its arguments and leaves every semaphore at zero, at bit patterns
   and at ideal values; so does the reference; and on eight devices holding their parts of the reference's arrays the
   kernel leaves the reference's result on each of them. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Lib.Quiescent

@[expose] public section

noncomputable section

namespace Cert.Proof

open Idealize.ShloMosaic Idealize.SL.Sem

theorem frame_ideal : Cert.quiescent_KernelIdeal := fun m ρ _ =>
  (θ_run Cert.KernelIdeal.defs _ _).mono (fun _ h => ⟨fun c => (h.1 c).2, h.2⟩) (Cert.AllReduce.run_main (F := Ideal) m ρ)

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every device's result is the reference's, of arguments that agree. -/
theorem value : Cert.algebraic_KernelIdeal_ReferenceIdeal := fun m ρ m' ρ' _ hagree =>
  ⟨Cert.AllReduce.wanted (m' (((0 : Dev Cert.ReferenceIdeal.nD).tc).loc Cert.ReferenceIdeal.main_arg0))
      (m' (((0 : Dev Cert.ReferenceIdeal.nD).tc).loc Cert.ReferenceIdeal.main_arg1))
      (m' (((0 : Dev Cert.ReferenceIdeal.nD).tc).loc Cert.ReferenceIdeal.main_arg2)),
    (θ_run Cert.KernelIdeal.defs _ _).mono
      (fun _ h c => ⟨(h.1 c).1.trans (Cert.AllReduce.outFull_eq m _ _ _ (fun d => (hagree d).1) (fun d => (hagree d).2.1)
        (fun d => (hagree d).2.2) c), (h.1 c).2⟩)
      (Cert.AllReduce.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    Cert.AllReduce.frame_kernel, frame_ideal, frame_reference, trivial, value⟩

end Cert.Proof

end
